-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_pre_value [hPre_pre_value : Cert.Pre_pre_value.Facts] (m : (ℓ : Loc Cert.KernelIdeal.nD Cert.KernelIdeal.τ Cert.KernelIdeal.sig) → Buf (Elt Ideal) ℓ) : Prop :=
  ∀ c : Dev Cert.KernelIdeal.nD,
    (Cert.Pre_pre_value.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_value [hPre_pre_value : Cert.Pre_pre_value.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_value.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre_value [hKernelIdeal : Cert.KernelIdeal.Facts] [hPre_pre_value : Cert.Pre_pre_value.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_value m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre_value [hReferenceIdeal : Cert.ReferenceIdeal.Facts] [hPre_pre_value : Cert.Pre_pre_value.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_value m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre_value [hKernelIdeal : Cert.KernelIdeal.Facts] [hReferenceIdeal : Cert.ReferenceIdeal.Facts] [hPre_pre_value : Cert.Pre_pre_value.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_value m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts) (hPre_pre_value : Cert.Pre_pre_value.Facts),
    quiescent_Kernel (hKernel := hKernel) (hPre_pre := hPre_pre)
    ∧ quiescent_KernelIdeal (hKernelIdeal := hKernelIdeal) (hPre_pre := hPre_pre)
    ∧ quiescent_KernelIdeal_pre_pre_value (hKernelIdeal := hKernelIdeal) (hPre_pre_value := hPre_pre_value)
    ∧ quiescent_ReferenceIdeal (hReferenceIdeal := hReferenceIdeal)
    ∧ quiescent_ReferenceIdeal_pre_pre_value (hReferenceIdeal := hReferenceIdeal) (hPre_pre_value := hPre_pre_value)
    ∧ preserves_Kernel_KernelIdeal
    ∧ algebraic_KernelIdeal_ReferenceIdeal_pre_pre_value (hKernelIdeal := hKernelIdeal) (hReferenceIdeal := hReferenceIdeal) (hPre_pre_value := hPre_pre_value)
-- ==== Pre_pre.lean ====
abbrev S16384x128 : Shape := ⟨2, ![16384, 128]⟩
abbrev S16384 : Shape := ⟨1, ![16384]⟩
abbrev S26x128 : Shape := ⟨2, ![26, 128]⟩
abbrev S26x26 : Shape := ⟨2, ![26, 26]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S26x128 .f32) (main_arg3 : FVec F S26x26 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 26#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_pre_value.lean ====
abbrev S16384x128 : Shape := ⟨2, ![16384, 128]⟩
abbrev S16384 : Shape := ⟨1, ![16384]⟩
abbrev S26x128 : Shape := ⟨2, ![26, 128]⟩
abbrev S26x26 : Shape := ⟨2, ![26, 26]⟩
abbrev S_ : Shape := ⟨0, ![]⟩
abbrev S26 : Shape := ⟨1, ![26]⟩
abbrev S26x1 : Shape := ⟨2, ![26, 1]⟩

class Facts : Prop where
  bcast_S_S26x26 : S_.BroadcastsInDim S26x26 (![] : Fin 0 → Fin S26x26.rank)
  reducesTo_S26x26_S26_d1 : S26x26.ReducesTo [1] S26
  h_S_ : 0 < S_.numel
  bcast_S26_S26x1_0 : S26.BroadcastsInDim S26x1 (![0] : Fin 1 → Fin S26x1.rank)
  bcast_S_S26x1 : S_.BroadcastsInDim S26x1 (![] : Fin 0 → Fin S26x1.rank)
  bcast_S_S16384 : S_.BroadcastsInDim S16384 (![] : Fin 0 → Fin S16384.rank)
  reducesTo_S16384_S_d0 : S16384.ReducesTo [0] S_
  bcast_S_S16384x128 : S_.BroadcastsInDim S16384x128 (![] : Fin 0 → Fin S16384x128.rank)
  reducesTo_S16384x128_S_d0_1 : S16384x128.ReducesTo [0, 1] S_
  reducesTo_S26x1_S_d0_1 : S26x1.ReducesTo [0, 1] S_

variable [Facts]

def fn_part1 {F : FTy → Type} [FloatOps F] (main_arg0 : FVec F S16384x128 .f32) (main_v12 : FVec F S26x1 .f32) (main_v17 : IVec S16384 1) : IVec S_ 1 :=
  let main_c_4 : IVec S_ 1 := constantI S_ 1 1#1
  let main_v18 : IVec S_ 1 := (fun x v => Host.reduce IntOp.andi x v reducesTo_S16384_S_d0 h_S_) main_v17 main_c_4
  let main_v19 : FVec F S16384x128 .f32 := Host.absf main_arg0
  let main_cst_5 : FVec F S_ .f32 := constant S_ .f32 0x7F800000#32
  let main_v20 : FVec F S16384x128 .f32 := broadcastInDim S16384x128 ![] bcast_S_S16384x128 main_cst_5
  let main_v21 : IVec S16384x128 1 := cmpf .olt main_v19 main_v20
  let main_c_6 : IVec S_ 1 := constantI S_ 1 1#1
  let main_v22 : IVec S_ 1 := (fun x v => Host.reduce IntOp.andi x v reducesTo_S16384x128_S_d0_1 h_S_) main_v21 main_c_6
  let main_v23 : IVec S_ 1 := andi main_v18 main_v22
  let main_cst_7 : FVec F S_ .f32 := constant S_ .f32 0x00000000#32
  let main_v24 : FVec F S26x1 .f32 := broadcastInDim S26x1 ![] bcast_S_S26x1 main_cst_7
  let main_v25 : IVec S26x1 1 := cmpf .une main_v12 main_v24
  let main_c_8 : IVec S_ 1 := constantI S_ 1 1#1
  let main_v26 : IVec S_ 1 := (fun x v => Host.reduce IntOp.andi x v reducesTo_S26x1_S_d0_1 h_S_) main_v25 main_c_8
  let main_v27 : IVec S_ 1 := andi main_v23 main_v26
  main_v27

def fn {F : FTy → Type} [FloatOps F] (main_arg0 : FVec F S16384x128 .f32) (main_arg1 : IVec S16384 32) (main_arg2 : FVec F S26x128 .f32) (main_arg3 : FVec F S26x26 .f32) : IVec S_ 1 :=
  let main_v0 : IVec S26x26 32 := iotaInDim S26x26 32 0
  let main_v1 : IVec S26x26 32 := iotaInDim S26x26 32 1
  let main_c : IVec S_ 32 := constantI S_ 32 0#32
  let main_v2 : IVec S26x26 32 := broadcastInDim S26x26 ![] bcast_S_S26x26 main_c
  let main_v3 : IVec S26x26 32 := addi main_v0 main_v2
  let main_v4 : IVec S26x26 1 := cmpi .eq main_v3 main_v1
  let main_v5 : FVec F S26x26 .f32 := uitofp .f32 main_v4
  let main_cst : FVec F S_ .f32 := constant S_ .f32 0x3F800000#32
  let main_v6 : FVec F S26x26 .f32 := broadcastInDim S26x26 ![] bcast_S_S26x26 main_cst
  let main_v7 : FVec F S26x26 .f32 := subf main_v6 main_v5
  let main_v8 : FVec F S26x26 .f32 := mulf main_arg3 main_v7
  let main_cst_0 : FVec F S_ .f32 := constant S_ .f32 0x00000000#32
  let main_v9 : FVec F S26 .f32 := (fun x v => Host.reduceAdd x v reducesTo_S26x26_S26_d1 h_S_) main_v8 main_cst_0
  let main_v10 : FVec F S26x1 .f32 := broadcastInDim S26x1 ![0] bcast_S26_S26x1_0 main_v9
  let main_cst_1 : FVec F S_ .f32 := constant S_ .f32 0x322BCC77#32
  let main_v11 : FVec F S26x1 .f32 := broadcastInDim S26x1 ![] bcast_S_S26x1 main_cst_1
  let main_v12 : FVec F S26x1 .f32 := addf main_v10 main_v11
  let main_c_2 : IVec S_ 32 := constantI S_ 32 0#32
  let main_v13 : IVec S16384 32 := broadcastInDim S16384 ![] bcast_S_S16384 main_c_2
  let main_v14 : IVec S16384 1 := cmpi .sge main_arg1 main_v13
  let main_c_3 : IVec S_ 32 := constantI S_ 32 26#32
  let main_v15 : IVec S16384 32 := broadcastInDim S16384 ![] bcast_S_S16384 main_c_3
  let main_v16 : IVec S16384 1 := cmpi .slt main_arg1 main_v15
  let main_v17 : IVec S16384 1 := andi main_v14 main_v16
  fn_part1 (F := F) main_arg0 main_v12 main_v17
-- ==== Kernel.lean ====
abbrev S16384x128 : Shape := ⟨2, ![16384, 128]⟩
abbrev S16384 : Shape := ⟨1, ![16384]⟩
abbrev S26x128 : Shape := ⟨2, ![26, 128]⟩
abbrev S26x26 : Shape := ⟨2, ![26, 26]⟩
abbrev S1024x128 : Shape := ⟨2, ![1024, 128]⟩
abbrev S128x128 : Shape := ⟨2, ![128, 128]⟩
abbrev S512 : Shape := ⟨1, ![512]⟩
abbrev S32x128 : Shape := ⟨2, ![32, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S1x1 : Shape := ⟨2, ![1, 1]⟩
abbrev S26 : Shape := ⟨1, ![26]⟩
abbrev S26x1 : Shape := ⟨2, ![26, 1]⟩
abbrev S1x26x128 : Shape := ⟨3, ![1, 26, 128]⟩
abbrev S1 : Shape := ⟨1, ![1]⟩
abbrev S1x1x1 : Shape := ⟨3, ![1, 1, 1]⟩

abbrev nBuf : Table → Nat
  | .hbm => 7
  | .local .tc .vmem => 4
  | .local .scVector .vmem => 6
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S26x128, .f32⟩
  | .hbm, ⟨3, _⟩ => ⟨S26x26, .f32⟩
  | .hbm, ⟨4, _⟩ => ⟨S1024x128, .f32⟩
  | .hbm, ⟨5, _⟩ => ⟨S1x1, .f32⟩
  | .hbm, ⟨6, _⟩ => ⟨S_, .f32⟩
  | .local .tc .vmem, ⟨0, _⟩ => ⟨S1024x128, .f32⟩
  | .local .tc .vmem, ⟨1, _⟩ => ⟨S26x128, .f32⟩
  | .local .tc .vmem, ⟨2, _⟩ => ⟨S26x26, .f32⟩
  | .local .tc .vmem, ⟨3, _⟩ => ⟨S1x1, .f32⟩
  | .local .scVector .vmem, ⟨0, _⟩ => ⟨S128x128, .f32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S512, .i32⟩
  | .local .scVector .vmem, ⟨5, _⟩ => ⟨S32x128, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 37
abbrev cc1_sem1_0 : DmaSem sig := 38
abbrev cc1_sem2_0 : DmaSem sig := 39
abbrev cc1_sem3_0 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_8 : BitVec 32 := 0#32
  let c32_i32 : BitVec 32 := 32#32
  let v16 : BitVec 32 := Scalar.addi c0_i32_8 c32_i32
  let c1_i32 : BitVec 32 := 1#32
  ⟨c0_i32_8, v16, c1_i32⟩
def k0_off3 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v113 : Index := Scalar.indexCast v112
  let c0 : Index := 0#32
  ![v113.toNat, 0]
def k0_off4 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v115 : Index := Scalar.indexCast v112
  let c16 : Index := 16#32
  ![v115.toNat, 16]
def k0_off5 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v117 : Index := Scalar.indexCast v112
  let c32 : Index := 32#32
  ![v117.toNat, 32]
def k0_off6 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v119 : Index := Scalar.indexCast v112
  let c48 : Index := 48#32
  ![v119.toNat, 48]
def k0_off7 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v121 : Index := Scalar.indexCast v112
  let c64 : Index := 64#32
  ![v121.toNat, 64]
def k0_off8 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v123 : Index := Scalar.indexCast v112
  let c80 : Index := 80#32
  ![v123.toNat, 80]
def k0_off9 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v125 : Index := Scalar.indexCast v112
  let c96 : Index := 96#32
  ![v125.toNat, 96]
def k0_off10 (k0_t1 : Fin k0_t1_loop.trips) : Fin 2 → Nat :=
  let c0_i32_106 : BitVec 32 := 0#32
  let c0_i32_8 : BitVec 32 := 0#32
  let c1_i32 : BitVec 32 := 1#32
  let arg15 : BitVec 32 := Scf.iv c0_i32_8 c1_i32 k0_t1
  let c1_i32_105 : BitVec 32 := 1#32
  let v111 : BitVec 32 := Scalar.muli arg15 c1_i32_105
  let v112 : BitVec 32 := Scalar.addi c0_i32_106 v111
  let v127 : Index := Scalar.indexCast v112
  let c112 : Index := 112#32
  ![v127.toNat, 112]
@[reducible] def k0_t2_loop : Scf.Loop 32 :=
  let c0_i32_15 : BitVec 32 := 0#32
  let c128_i32_16 : BitVec 32 := 128#32
  let v37 : BitVec 32 := Scalar.addi c0_i32_15 c128_i32_16
  let c1_i32_17 : BitVec 32 := 1#32
  ⟨c0_i32_15, v37, c1_i32_17⟩

def k0_chk1 (v115 : IVec S16 32) : Prop :=
  (∀ a x, ((![v115] : Fin 1 → IVec S16 32) a x).toNat < S512.size a)
theorem k0_idx1_inb : ∀ (v115 : IVec S16 32) (k0_hw1 : k0_chk1 v115), ∀ a x, ((![v115] : Fin 1 → IVec S16 32) a x).toNat < S512.size a := fun v115 k0_hw1 => k0_hw1
def k0_off11 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v117 : Index := Scalar.indexCast v112
  let c0 : Index := 0#32
  ![v117.toNat, 0]
def k0_off12 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v119 : Index := Scalar.indexCast v112
  let c16 : Index := 16#32
  ![v119.toNat, 16]
def k0_off13 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v121 : Index := Scalar.indexCast v112
  let c32 : Index := 32#32
  ![v121.toNat, 32]
def k0_off14 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v123 : Index := Scalar.indexCast v112
  let c48 : Index := 48#32
  ![v123.toNat, 48]
def k0_off15 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v125 : Index := Scalar.indexCast v112
  let c64 : Index := 64#32
  ![v125.toNat, 64]
def k0_off16 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v127 : Index := Scalar.indexCast v112
  let c80 : Index := 80#32
  ![v127.toNat, 80]
def k0_off17 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v129 : Index := Scalar.indexCast v112
  let c96 : Index := 96#32
  ![v129.toNat, 96]
def k0_off18 (k0_t2 : Fin k0_t2_loop.trips) : Fin 2 → Nat :=
  let c0_i32_106 : BitVec 32 := 0#32
  let c0_i32_15 : BitVec 32 := 0#32
  let c1_i32_17 : BitVec 32 := 1#32
  let arg15 : BitVec 32 := Scf.iv c0_i32_15 c1_i32_17 k0_t2
  let c1_i32_105 : BitVec 32 := 1#32
  let v111 : BitVec 32 := Scalar.muli arg15 c1_i32_105
  let v112 : BitVec 32 := Scalar.addi c0_i32_106 v111
  let v131 : Index := Scalar.indexCast v112
  let c112 : Index := 112#32
  ![v131.toNat, 112]

def k0_chk2 (v19 : IVec S16 32) (v21 : IVec S16 32) (v23 : IVec S16 32) (v25 : IVec S16 32) (v27 : IVec S16 32) (v29 : IVec S16 32) (v31 : IVec S16 32) (v33 : IVec S16 32) (v116 : IVec S16 32) : Prop :=
  (∀ a x, ((![v116, v19] : Fin 2 → IVec S16 32) a x).toNat < S32x128.size a) ∧
  (∀ a x, ((![v116, v21] : Fin 2 → IVec S16 32) a x).toNat < S32x128.size a) ∧
  (∀ a x, ((![v116, v23] : Fin 2 → IVec S16 32) a x).toNat < S32x128.size a) ∧
  (∀ a x, ((![v116, v25] : Fin 2 → IVec S16 32) a x).toNat < S32x128.size a) ∧
  (∀ a x, ((![v116, v27] : Fin 2 → IVec S16 32) a x).toNat < S32x128.size a) ∧
  (∀ a x, ((![v116, v29] : Fin 2 → IVec S16 32) a x).toNat < S32x128.size a) ∧
  (∀ a x, ((![v116, v31] : Fin 2 → IVec S16 32) a x).toNat < S32x128.size a) ∧
  (∀ a x, ((![v116, v33] : Fin 2 → IVec S16 32) a x).toNat < S32x128.size a)
theorem k0_idx2_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v19] : Fin 2 → IVec S16 32) a x).toNat < S32x128.size a := fun v19 v21 v23 v25 v27 v29 v31 v33 v116 k0_hw2 => k0_hw2.1
theorem k0_idx3_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v21] : Fin 2 → IVec S16 32) a x).toNat < S32x128.size a := fun v19 v21 v23 v25 v27 v29 v31 v33 v116 k0_hw2 => k0_hw2.2.1
theorem k0_idx4_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v23] : Fin 2 → IVec S16 32) a x).toNat < S32x128.size a := fun v19 v21 v23 v25 v27 v29 v31 v33 v116 k0_hw2 => k0_hw2.2.2.1
theorem k0_idx5_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v25] : Fin 2 → IVec S16 32) a x).toNat < S32x128.size a := fun v19 v21 v23 v25 v27 v29 v31 v33 v116 k0_hw2 => k0_hw2.2.2.2.1
theorem k0_idx6_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v27] : Fin 2 → IVec S16 32) a x).toNat < S32x128.size a := fun v19 v21 v23 v25 v27 v29 v31 v33 v116 k0_hw2 => k0_hw2.2.2.2.2.1
theorem k0_idx7_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v29] : Fin 2 → IVec S16 32) a x).toNat < S32x128.size a := fun v19 v21 v23 v25 v27 v29 v31 v33 v116 k0_hw2 => k0_hw2.2.2.2.2.2.1
theorem k0_idx8_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v31] : Fin 2 → IVec S16 32) a x).toNat < S32x128.size a := fun v19 v21 v23 v25 v27 v29 v31 v33 v116 k0_hw2 => k0_hw2.2.2.2.2.2.2.1
theorem k0_idx9_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw2 : k0_chk2 v19 v21 v23 v25 v27 v29 v31 v33 v116), ∀ a x, ((![v116, v33] : Fin 2 → IVec S16 32) a x).toNat < S32x128.size a := fun v19 v21 v23 v25 v27 v29 v31 v33 v116 k0_hw2 => k0_hw2.2.2.2.2.2.2.2
def k0_off19 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v6 : BitVec 32 := Scalar.addi v2 c128_i32
  let c0_i32_19 : BitVec 32 := 0#32
  ![v6.toNat, 0]
@[reducible] def k0_t3_loop : Scf.Loop 32 :=
  let c0_i32_21 : BitVec 32 := 0#32
  let c128_i32_22 : BitVec 32 := 128#32
  let v40 : BitVec 32 := Scalar.addi c0_i32_21 c128_i32_22
  let c1_i32_23 : BitVec 32 := 1#32
  ⟨c0_i32_21, v40, c1_i32_23⟩

def k0_chk3 (v115 : IVec S16 32) : Prop :=
  (∀ a x, ((![v115] : Fin 1 → IVec S16 32) a x).toNat < S512.size a)
theorem k0_idx10_inb : ∀ (v115 : IVec S16 32) (k0_hw3 : k0_chk3 v115), ∀ a x, ((![v115] : Fin 1 → IVec S16 32) a x).toNat < S512.size a := fun v115 k0_hw3 => k0_hw3
def k0_off20 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v117 : Index := Scalar.indexCast v112
  let c0 : Index := 0#32
  ![v117.toNat, 0]
def k0_off21 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v119 : Index := Scalar.indexCast v112
  let c16 : Index := 16#32
  ![v119.toNat, 16]
def k0_off22 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v121 : Index := Scalar.indexCast v112
  let c32 : Index := 32#32
  ![v121.toNat, 32]
def k0_off23 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v123 : Index := Scalar.indexCast v112
  let c48 : Index := 48#32
  ![v123.toNat, 48]
def k0_off24 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v125 : Index := Scalar.indexCast v112
  let c64 : Index := 64#32
  ![v125.toNat, 64]
def k0_off25 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v127 : Index := Scalar.indexCast v112
  let c80 : Index := 80#32
  ![v127.toNat, 80]
def k0_off26 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v129 : Index := Scalar.indexCast v112
  let c96 : Index := 96#32
  ![v129.toNat, 96]
def k0_off27 (k0_t3 : Fin k0_t3_loop.trips) : Fin 2 → Nat :=
  let c0_i32_106 : BitVec 32 := 0#32
  let c0_i32_21 : BitVec 32 := 0#32
  let c1_i32_23 : BitVec 32 := 1#32
  let arg15 : BitVec 32 := Scf.iv c0_i32_21 c1_i32_23 k0_t3
  let c1_i32_105 : BitVec 32 := 1#32
  let v111 : BitVec 32 := Scalar.muli arg15 c1_i32_105
  let v112 : BitVec 32 := Scalar.addi c0_i32_106 v111
  let v131 : Index := Scalar.indexCast v112
  let c112 : Index := 112#32
  ![v131.toNat, 112]

def k0_chk4 (v19 : IVec S16 32) (v21 : IVec S16 32) (v23 : IVec S16 32) (v25 : IVec S16 32) (v27 : IVec S16 32) (v29 : IVec S16 32) (v31 : IVec S16 32) (v33 : IVec S16 32) (v116 : IVec S16 32) : Prop :=
  (∀ a x, ((![v116, v19] : Fin 2 → IVec S16 32) a x).toNat < S32x128.size a) ∧
  (∀ a x, ((![v116, v21] : Fin 2 → IVec S16 32) a x).toNat < S32x128.size a) ∧
  (∀ a x, ((![v116, v23] : Fin 2 → IVec S16 32) a x).toNat < S32x128.size a) ∧
  (∀ a x, ((![v116, v25] : Fin 2 → IVec S16 32) a x).toNat < S32x128.size a) ∧
  (∀ a x, ((![v116, v27] : Fin 2 → IVec S16 32) a x).toNat < S32x128.size a) ∧
  (∀ a x, ((![v116, v29] : Fin 2 → IVec S16 32) a x).toNat < S32x128.size a) ∧
  (∀ a x, ((![v116, v31] : Fin 2 → IVec S16 32) a x).toNat < S32x128.size a) ∧
  (∀ a x, ((![v116, v33] : Fin 2 → IVec S16 32) a x).toNat < S32x128.size a)
theorem k0_idx11_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v19] : Fin 2 → IVec S16 32) a x).toNat < S32x128.size a := fun v19 v21 v23 v25 v27 v29 v31 v33 v116 k0_hw4 => k0_hw4.1
theorem k0_idx12_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v21] : Fin 2 → IVec S16 32) a x).toNat < S32x128.size a := fun v19 v21 v23 v25 v27 v29 v31 v33 v116 k0_hw4 => k0_hw4.2.1
theorem k0_idx13_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v23] : Fin 2 → IVec S16 32) a x).toNat < S32x128.size a := fun v19 v21 v23 v25 v27 v29 v31 v33 v116 k0_hw4 => k0_hw4.2.2.1
theorem k0_idx14_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v25] : Fin 2 → IVec S16 32) a x).toNat < S32x128.size a := fun v19 v21 v23 v25 v27 v29 v31 v33 v116 k0_hw4 => k0_hw4.2.2.2.1
theorem k0_idx15_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v27] : Fin 2 → IVec S16 32) a x).toNat < S32x128.size a := fun v19 v21 v23 v25 v27 v29 v31 v33 v116 k0_hw4 => k0_hw4.2.2.2.2.1
theorem k0_idx16_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v29] : Fin 2 → IVec S16 32) a x).toNat < S32x128.size a := fun v19 v21 v23 v25 v27 v29 v31 v33 v116 k0_hw4 => k0_hw4.2.2.2.2.2.1
theorem k0_idx17_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v31] : Fin 2 → IVec S16 32) a x).toNat < S32x128.size a := fun v19 v21 v23 v25 v27 v29 v31 v33 v116 k0_hw4 => k0_hw4.2.2.2.2.2.2.1
theorem k0_idx18_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw4 : k0_chk4 v19 v21 v23 v25 v27 v29 v31 v33 v116), ∀ a x, ((![v116, v33] : Fin 2 → IVec S16 32) a x).toNat < S32x128.size a := fun v19 v21 v23 v25 v27 v29 v31 v33 v116 k0_hw4 => k0_hw4.2.2.2.2.2.2.2
@[reducible] def k0_t4_loop : Scf.Loop 32 :=
  let c0_i32_27 : BitVec 32 := 0#32
  let c128_i32_28 : BitVec 32 := 128#32
  let v43 : BitVec 32 := Scalar.addi c0_i32_27 c128_i32_28
  let c1_i32_29 : BitVec 32 := 1#32
  ⟨c0_i32_27, v43, c1_i32_29⟩

def k0_chk5 (v115 : IVec S16 32) : Prop :=
  (∀ a x, ((![v115] : Fin 1 → IVec S16 32) a x).toNat < S512.size a)
theorem k0_idx19_inb : ∀ (v115 : IVec S16 32) (k0_hw5 : k0_chk5 v115), ∀ a x, ((![v115] : Fin 1 → IVec S16 32) a x).toNat < S512.size a := fun v115 k0_hw5 => k0_hw5
def k0_off28 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v117 : Index := Scalar.indexCast v112
  let c0 : Index := 0#32
  ![v117.toNat, 0]
def k0_off29 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v119 : Index := Scalar.indexCast v112
  let c16 : Index := 16#32
  ![v119.toNat, 16]
def k0_off30 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v121 : Index := Scalar.indexCast v112
  let c32 : Index := 32#32
  ![v121.toNat, 32]
def k0_off31 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v123 : Index := Scalar.indexCast v112
  let c48 : Index := 48#32
  ![v123.toNat, 48]
def k0_off32 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v125 : Index := Scalar.indexCast v112
  let c64 : Index := 64#32
  ![v125.toNat, 64]
def k0_off33 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v127 : Index := Scalar.indexCast v112
  let c80 : Index := 80#32
  ![v127.toNat, 80]
def k0_off34 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v129 : Index := Scalar.indexCast v112
  let c96 : Index := 96#32
  ![v129.toNat, 96]
def k0_off35 (k0_t4 : Fin k0_t4_loop.trips) : Fin 2 → Nat :=
  let c0_i32_106 : BitVec 32 := 0#32
  let c0_i32_27 : BitVec 32 := 0#32
  let c1_i32_29 : BitVec 32 := 1#32
  let arg15 : BitVec 32 := Scf.iv c0_i32_27 c1_i32_29 k0_t4
  let c1_i32_105 : BitVec 32 := 1#32
  let v111 : BitVec 32 := Scalar.muli arg15 c1_i32_105
  let v112 : BitVec 32 := Scalar.addi c0_i32_106 v111
  let v131 : Index := Scalar.indexCast v112
  let c112 : Index := 112#32
  ![v131.toNat, 112]

def k0_chk6 (v19 : IVec S16 32) (v21 : IVec S16 32) (v23 : IVec S16 32) (v25 : IVec S16 32) (v27 : IVec S16 32) (v29 : IVec S16 32) (v31 : IVec S16 32) (v33 : IVec S16 32) (v116 : IVec S16 32) : Prop :=
  (∀ a x, ((![v116, v19] : Fin 2 → IVec S16 32) a x).toNat < S32x128.size a) ∧
  (∀ a x, ((![v116, v21] : Fin 2 → IVec S16 32) a x).toNat < S32x128.size a) ∧
  (∀ a x, ((![v116, v23] : Fin 2 → IVec S16 32) a x).toNat < S32x128.size a) ∧
  (∀ a x, ((![v116, v25] : Fin 2 → IVec S16 32) a x).toNat < S32x128.size a) ∧
  (∀ a x, ((![v116, v27] : Fin 2 → IVec S16 32) a x).toNat < S32x128.size a) ∧
  (∀ a x, ((![v116, v29] : Fin 2 → IVec S16 32) a x).toNat < S32x128.size a) ∧
  (∀ a x, ((![v116, v31] : Fin 2 → IVec S16 32) a x).toNat < S32x128.size a) ∧
  (∀ a x, ((![v116, v33] : Fin 2 → IVec S16 32) a x).toNat < S32x128.size a)
theorem k0_idx20_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v19] : Fin 2 → IVec S16 32) a x).toNat < S32x128.size a := fun v19 v21 v23 v25 v27 v29 v31 v33 v116 k0_hw6 => k0_hw6.1
theorem k0_idx21_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v21] : Fin 2 → IVec S16 32) a x).toNat < S32x128.size a := fun v19 v21 v23 v25 v27 v29 v31 v33 v116 k0_hw6 => k0_hw6.2.1
theorem k0_idx22_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v23] : Fin 2 → IVec S16 32) a x).toNat < S32x128.size a := fun v19 v21 v23 v25 v27 v29 v31 v33 v116 k0_hw6 => k0_hw6.2.2.1
theorem k0_idx23_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v25] : Fin 2 → IVec S16 32) a x).toNat < S32x128.size a := fun v19 v21 v23 v25 v27 v29 v31 v33 v116 k0_hw6 => k0_hw6.2.2.2.1
theorem k0_idx24_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v27] : Fin 2 → IVec S16 32) a x).toNat < S32x128.size a := fun v19 v21 v23 v25 v27 v29 v31 v33 v116 k0_hw6 => k0_hw6.2.2.2.2.1
theorem k0_idx25_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v29] : Fin 2 → IVec S16 32) a x).toNat < S32x128.size a := fun v19 v21 v23 v25 v27 v29 v31 v33 v116 k0_hw6 => k0_hw6.2.2.2.2.2.1
theorem k0_idx26_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v31] : Fin 2 → IVec S16 32) a x).toNat < S32x128.size a := fun v19 v21 v23 v25 v27 v29 v31 v33 v116 k0_hw6 => k0_hw6.2.2.2.2.2.2.1
theorem k0_idx27_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw6 : k0_chk6 v19 v21 v23 v25 v27 v29 v31 v33 v116), ∀ a x, ((![v116, v33] : Fin 2 → IVec S16 32) a x).toNat < S32x128.size a := fun v19 v21 v23 v25 v27 v29 v31 v33 v116 k0_hw6 => k0_hw6.2.2.2.2.2.2.2
@[reducible] def k0_t5_loop : Scf.Loop 32 :=
  let c0_i32_33 : BitVec 32 := 0#32
  let c128_i32_34 : BitVec 32 := 128#32
  let v46 : BitVec 32 := Scalar.addi c0_i32_33 c128_i32_34
  let c1_i32_35 : BitVec 32 := 1#32
  ⟨c0_i32_33, v46, c1_i32_35⟩

def k0_chk7 (v115 : IVec S16 32) : Prop :=
  (∀ a x, ((![v115] : Fin 1 → IVec S16 32) a x).toNat < S512.size a)
theorem k0_idx28_inb : ∀ (v115 : IVec S16 32) (k0_hw7 : k0_chk7 v115), ∀ a x, ((![v115] : Fin 1 → IVec S16 32) a x).toNat < S512.size a := fun v115 k0_hw7 => k0_hw7
def k0_off36 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v117 : Index := Scalar.indexCast v112
  let c0 : Index := 0#32
  ![v117.toNat, 0]
def k0_off37 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v119 : Index := Scalar.indexCast v112
  let c16 : Index := 16#32
  ![v119.toNat, 16]
def k0_off38 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v121 : Index := Scalar.indexCast v112
  let c32 : Index := 32#32
  ![v121.toNat, 32]
def k0_off39 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v123 : Index := Scalar.indexCast v112
  let c48 : Index := 48#32
  ![v123.toNat, 48]
def k0_off40 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v125 : Index := Scalar.indexCast v112
  let c64 : Index := 64#32
  ![v125.toNat, 64]
def k0_off41 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v127 : Index := Scalar.indexCast v112
  let c80 : Index := 80#32
  ![v127.toNat, 80]
def k0_off42 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v129 : Index := Scalar.indexCast v112
  let c96 : Index := 96#32
  ![v129.toNat, 96]
def k0_off43 (k0_t5 : Fin k0_t5_loop.trips) : Fin 2 → Nat :=
  let c0_i32_106 : BitVec 32 := 0#32
  let c0_i32_33 : BitVec 32 := 0#32
  let c1_i32_35 : BitVec 32 := 1#32
  let arg15 : BitVec 32 := Scf.iv c0_i32_33 c1_i32_35 k0_t5
  let c1_i32_105 : BitVec 32 := 1#32
  let v111 : BitVec 32 := Scalar.muli arg15 c1_i32_105
  let v112 : BitVec 32 := Scalar.addi c0_i32_106 v111
  let v131 : Index := Scalar.indexCast v112
  let c112 : Index := 112#32
  ![v131.toNat, 112]

def k0_chk8 (v19 : IVec S16 32) (v21 : IVec S16 32) (v23 : IVec S16 32) (v25 : IVec S16 32) (v27 : IVec S16 32) (v29 : IVec S16 32) (v31 : IVec S16 32) (v33 : IVec S16 32) (v116 : IVec S16 32) : Prop :=
  (∀ a x, ((![v116, v19] : Fin 2 → IVec S16 32) a x).toNat < S32x128.size a) ∧
  (∀ a x, ((![v116, v21] : Fin 2 → IVec S16 32) a x).toNat < S32x128.size a) ∧
  (∀ a x, ((![v116, v23] : Fin 2 → IVec S16 32) a x).toNat < S32x128.size a) ∧
  (∀ a x, ((![v116, v25] : Fin 2 → IVec S16 32) a x).toNat < S32x128.size a) ∧
  (∀ a x, ((![v116, v27] : Fin 2 → IVec S16 32) a x).toNat < S32x128.size a) ∧
  (∀ a x, ((![v116, v29] : Fin 2 → IVec S16 32) a x).toNat < S32x128.size a) ∧
  (∀ a x, ((![v116, v31] : Fin 2 → IVec S16 32) a x).toNat < S32x128.size a) ∧
  (∀ a x, ((![v116, v33] : Fin 2 → IVec S16 32) a x).toNat < S32x128.size a)
theorem k0_idx29_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v19] : Fin 2 → IVec S16 32) a x).toNat < S32x128.size a := fun v19 v21 v23 v25 v27 v29 v31 v33 v116 k0_hw8 => k0_hw8.1
theorem k0_idx30_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v21] : Fin 2 → IVec S16 32) a x).toNat < S32x128.size a := fun v19 v21 v23 v25 v27 v29 v31 v33 v116 k0_hw8 => k0_hw8.2.1
theorem k0_idx31_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v23] : Fin 2 → IVec S16 32) a x).toNat < S32x128.size a := fun v19 v21 v23 v25 v27 v29 v31 v33 v116 k0_hw8 => k0_hw8.2.2.1
theorem k0_idx32_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v25] : Fin 2 → IVec S16 32) a x).toNat < S32x128.size a := fun v19 v21 v23 v25 v27 v29 v31 v33 v116 k0_hw8 => k0_hw8.2.2.2.1
theorem k0_idx33_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v27] : Fin 2 → IVec S16 32) a x).toNat < S32x128.size a := fun v19 v21 v23 v25 v27 v29 v31 v33 v116 k0_hw8 => k0_hw8.2.2.2.2.1
theorem k0_idx34_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v29] : Fin 2 → IVec S16 32) a x).toNat < S32x128.size a := fun v19 v21 v23 v25 v27 v29 v31 v33 v116 k0_hw8 => k0_hw8.2.2.2.2.2.1
theorem k0_idx35_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v31] : Fin 2 → IVec S16 32) a x).toNat < S32x128.size a := fun v19 v21 v23 v25 v27 v29 v31 v33 v116 k0_hw8 => k0_hw8.2.2.2.2.2.2.1
theorem k0_idx36_inb : ∀ (v19 : IVec S16 32) (v21 : IVec S16 32) (v23 : IVec S16 32) (v25 : IVec S16 32) (v27 : IVec S16 32) (v29 : IVec S16 32) (v31 : IVec S16 32) (v33 : IVec S16 32) (v116 : IVec S16 32) (k0_hw8 : k0_chk8 v19 v21 v23 v25 v27 v29 v31 v33 v116), ∀ a x, ((![v116, v33] : Fin 2 → IVec S16 32) a x).toNat < S32x128.size a := fun v19 v21 v23 v25 v27 v29 v31 v33 v116 k0_hw8 => k0_hw8.2.2.2.2.2.2.2
def k0_off44 (i : grid0.Coords) (c0_i32_38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_37 : BitVec 32 := 32#32
  let v47 : BitVec 32 := Scalar.muli v1 c32_i32_37
  let v48 : BitVec 32 := Scalar.addi v47 c0_i32_38
  let c0_i32_106_r1 : BitVec 32 := 0#32
  ![v48.toNat, 0]
abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S26x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S26x26 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S26x128 : Shape := ⟨2, ![26, 128]⟩
abbrev S26x26 : Shape := ⟨2, ![26, 26]⟩
abbrev S_ : Shape := ⟨0, ![]⟩
abbrev S26 : Shape := ⟨1, ![26]⟩
abbrev S26x1 : Shape := ⟨2, ![26, 1]⟩
abbrev S16384x1 : Shape := ⟨2, ![16384, 1]⟩
abbrev S1 : Shape := ⟨1, ![1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S26x128, .f32⟩
  | .hbm, ⟨3, _⟩ => ⟨S26x26, .f32⟩
  | .hbm, ⟨4, _⟩ => ⟨S26x128, .f32⟩
  | .hbm, ⟨5, _⟩ => ⟨S_, .f32⟩
  | .hbm, ⟨6, _⟩ => ⟨S26, .f32⟩
  | .hbm, ⟨7, _⟩ => ⟨S26x1, .f32⟩
  | .hbm, ⟨8, _⟩ => ⟨S26x1, .f32⟩
  | .hbm, ⟨9, _⟩ => ⟨S_, .f32⟩
  | .hbm, ⟨10, _⟩ => ⟨S26x1, .f32⟩
  | .hbm, ⟨11, _⟩ => ⟨S26x1, .f32⟩
  | .hbm, ⟨12, _⟩ => ⟨S26x128, .f32⟩
  | .hbm, ⟨13, _⟩ => ⟨S26x128, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S1x1, .i32⟩
  | .hbm, ⟨27, _⟩ => ⟨S16384x1, .i32⟩
  | .hbm, ⟨28, _⟩ => ⟨S16384x1, .i1⟩
  | .hbm, ⟨29, _⟩ => ⟨S16384x1, .i1⟩
  | .hbm, ⟨30, _⟩ => ⟨S_, .i1⟩
  | .hbm, ⟨31, _⟩ => ⟨S16384, .i1⟩
  | .hbm, ⟨32, _⟩ => ⟨S16384x128, .f32⟩
  | .hbm, ⟨33, _⟩ => ⟨S16384x128, .i1⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S26x26, .i32⟩
  | .hbm, ⟨48, _⟩ => ⟨S26x26, .i32⟩
  | .hbm, ⟨49, _⟩ => ⟨S_, .i32⟩
  | .hbm, ⟨50, _⟩ => ⟨S26x26, .i32⟩
  | .hbm, ⟨51, _⟩ => ⟨S26x26, .i32⟩
  | .hbm, ⟨52, _⟩ => ⟨S26x26, .i1⟩
  | .hbm, ⟨53, _⟩ => ⟨S26x26, .f32⟩
  | .hbm, ⟨54, _⟩ => ⟨S_, .f32⟩
  | .hbm, ⟨55, _⟩ => ⟨S26x26, .f32⟩
  | .hbm, ⟨56, _⟩ => ⟨S26x26, .f32⟩
  | .hbm, ⟨57, _⟩ => ⟨S26x26, .f32⟩
  | .hbm, ⟨58, _⟩ => ⟨S_, .f32⟩
  | .hbm, ⟨59, _⟩ => ⟨S26, .f32⟩
  | .hbm, ⟨60, _⟩ => ⟨S26x1, .f32⟩
  | .hbm, ⟨61, _⟩ => ⟨S_, .f32⟩
  | .hbm, ⟨62, _⟩ => ⟨S26x1, .f32⟩
  | .hbm, ⟨63, _⟩ => ⟨S26x1, .f32⟩
  | .hbm, ⟨64, _⟩ => ⟨S26x26, .f32⟩
  | .hbm, ⟨65, _⟩ => ⟨S26x26, .f32⟩
  | .hbm, ⟨66, _⟩ => ⟨S26x128, .f32⟩
  | .hbm, ⟨67, _⟩ => ⟨S26x128, .f32⟩
  | .hbm, ⟨68, _⟩ => ⟨S_, .f32⟩
  | .hbm, ⟨69, _⟩ => ⟨S26, .f32⟩
  | .hbm, ⟨70, _⟩ => ⟨S_, .f32⟩
  | .hbm, ⟨71, _⟩ => ⟨S26, .f32⟩
  | .hbm, ⟨72, _⟩ => ⟨S26, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v5 : Ref sig .tc := ⟨.hbm, 36, rfl⟩
abbrev main_v6 : Ref sig .tc := ⟨.hbm, 37, rfl⟩
abbrev main_cst_0 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_cst_3 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_c : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_4 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_5 : Ref sig .tc := ⟨.hbm, 58, rfl⟩
abbrev main_v21 : Ref sig .tc := ⟨.hbm, 59, rfl⟩
abbrev main_v22 : Ref sig .tc := ⟨.hbm, 60, rfl⟩
abbrev main_cst_6 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_cst_8 : Ref sig .tc := ⟨.hbm, 70, rfl⟩
abbrev main_v30 : Ref sig .tc := ⟨.hbm, 71, rfl⟩
abbrev main_v31 : Ref sig .tc := ⟨.hbm, 72, rfl⟩
abbrev main_cst_9 : Ref sig .tc := ⟨.hbm, 73, rfl⟩
abbrev main_v32 : Ref sig .tc := ⟨.hbm, 74, rfl⟩
abbrev main_cst_10 : Ref sig .tc := ⟨.hbm, 75, rfl⟩
abbrev main_v33 : Ref sig .tc := ⟨.hbm, 76, rfl⟩
abbrev main_cst_11 : Ref sig .tc := ⟨.hbm, 77, rfl⟩
abbrev main_v34 : Ref sig .tc := ⟨.hbm, 78, rfl⟩
abbrev main_v35 : Ref sig .tc := ⟨.hbm, 79, rfl⟩

abbrev nD : Nat := 1
abbrev τ : Topo := Topo.v7x

variable {F : FTy → Type} [FloatOps F]
-- ==== Proof.Accum.lean ====
/-
  What a tile's accumulator holds. The kernel adds one row of features to the accumulator with eight indexed stores,
  each of sixteen lanes: all lanes name the accumulator's row `l` (the label), lane `x` of store `b` names column
  `16 b + x`. So the eight together add the row of features to row `l` and leave the other rows alone. These are facts
  of arrays only, for any float values `F`.
-/
module

public import proofs.«01_k».proof.Defs

@[expose] public section

noncomputable section

namespace Cert.Proof.Accum

open Idealize.ShloMosaic Cert.KernelIdeal

variable {F : FTy → Type} [FloatOps F]

/-- The accumulator `g` with the row `x` added to its row `l`. -/
def rowAdd (l : ℕ) (x : Fin 128 → F .f32) (g : Vec F S32x128 .f32) : Vec F S32x128 .f32 :=
  fun j => if (j 0).val = l then FloatOps.idxAddf (g j) (x (j 1)) else g j

/-- The same for the first `n` columns of the row only: where the first `n / 16` stores leave it. -/
def rowAddTo (n l : ℕ) (x : Fin 128 → F .f32) (g : Vec F S32x128 .f32) : Vec F S32x128 .f32 :=
  fun j => if (j 0).val = l ∧ (j 1).val < n then FloatOps.idxAddf (g j) (x (j 1)) else g j

/-- No columns: the accumulator as it was. -/
theorem rowAddTo_zero (l : ℕ) (x : Fin 128 → F .f32) (g : Vec F S32x128 .f32) : rowAddTo 0 l x g = g := by
  funext j; simp [rowAddTo]

/-- All columns: the row is added. -/
theorem rowAddTo_full (l : ℕ) (x : Fin 128 → F .f32) (g : Vec F S32x128 .f32) : rowAddTo 128 l x g = rowAdd l x g := by
  funext j
  have hj : (j 1).val < 128 := (j 1).isLt
  simp [rowAddTo, rowAdd, hj]

section Lanes

variable (idxs : Fin 2 → IVec S16 32) (v : Vec F S16 .f32) (h : ∀ a x, (idxs a x).toNat < S32x128.size a)

/-- One lane of an adding indexed store. -/
abbrev laneAdd (g : Vec F S32x128 .f32) (k : Fin 16) : Vec F S32x128 .f32 :=
  fun j => if ∀ a, (j a).val = (idxAt idxs h (Shape.ofLane (d := ![16]) k) a).val
    then Elt.idxAdd .f32 (g (idxAt idxs h (Shape.ofLane (d := ![16]) k))) (v (Shape.ofLane (d := ![16]) k)) else g j

/-- An adding indexed store with all its lanes on is its lanes, one after the other. -/
theorem storeIdx_eq_foldl (g : Vec F S32x128 .f32) :
    storeIdx g idxs v (fun _ => 1#1) true h = (List.finRange 16).foldl (laneAdd idxs v h) g := by
  unfold storeIdx
  refine congrArg (fun f => List.foldl f g (List.finRange 16)) ?_
  funext g k
  refine (if_pos rfl).trans ?_
  funext j
  by_cases hc : ∀ a, (j a).val = (idxAt idxs h (Shape.ofLane (d := ![16]) k) a).val
  · exact (if_pos hc).trans (if_pos hc).symm
  · exact (if_neg hc).trans (if_neg hc).symm

/-- Lanes that do not name the element `j` leave it alone. -/
theorem foldl_miss (j : S32x128.Idx) (L : List (Fin 16))
    (hL : ∀ k ∈ L, ¬ ∀ a, (j a).val = (idxAt idxs h (Shape.ofLane (d := ![16]) k) a).val) (g : Vec F S32x128 .f32) :
    L.foldl (laneAdd idxs v h) g j = g j := by
  induction L generalizing g with
  | nil => rfl
  | cons k L ih =>
    rw [List.foldl_cons, ih (fun k' hk' => hL k' (List.mem_cons_of_mem _ hk'))]
    exact if_neg (hL k List.mem_cons_self)

/-- The one lane that names the element `j` adds its value to it. -/
theorem foldl_hit (j : S32x128.Idx) (k₀ : Fin 16) (L : List (Fin 16)) (hn : L.Nodup) (hk₀ : k₀ ∈ L)
    (hhit : ∀ k, (∀ a, (j a).val = (idxAt idxs h (Shape.ofLane (d := ![16]) k) a).val) ↔ k = k₀) (g : Vec F S32x128 .f32) :
    L.foldl (laneAdd idxs v h) g j = FloatOps.idxAddf (g j) (v (Shape.ofLane (d := ![16]) k₀)) := by
  induction L generalizing g with
  | nil => exact absurd hk₀ List.not_mem_nil
  | cons k L ih =>
    rw [List.nodup_cons] at hn
    rw [List.foldl_cons]
    by_cases hk : k = k₀
    · subst hk
      rw [foldl_miss idxs v h j L (fun k' hk' hc => hn.1 ((hhit k').mp hc ▸ hk'))]
      have hj := (hhit k).mpr rfl
      have hji : j = idxAt idxs h (Shape.ofLane (d := ![16]) k) := funext fun a => Fin.ext (hj a)
      show (if _ then _ else _) = _
      rw [if_pos hj, ← hji]; rfl
    · have hk₀' : k₀ ∈ L := by
        rcases List.mem_cons.mp hk₀ with h' | h'
        · exact absurd h'.symm hk
        · exact h'
      rw [ih hn.2 hk₀']
      have hne : ¬ ∀ a, (j a).val = (idxAt idxs h (Shape.ofLane (d := ![16]) k) a).val := fun hc => hk ((hhit k).mp hc)
      rw [show laneAdd idxs v h g k j = g j from if_neg hne]

/-- One of the eight stores: all lanes in row `l`, lane `x` at column `n + x`, holding `x`'s columns from `n` on. -/
theorem storeIdx_step (l n n' : ℕ) (hn : n + 16 = n') (hn' : n' ≤ 128) (x : Fin 128 → F .f32) (g : Vec F S32x128 .f32)
    (hrow : ∀ y, (idxs 0 y).toNat = l) (hcol : ∀ y : S16.Idx, (idxs 1 y).toNat = n + (y 0).val)
    (hv : ∀ (y : S16.Idx) (c : Fin 128), c.val = n + (y 0).val → v y = x c) :
    storeIdx (rowAddTo n l x g) idxs v (fun _ => 1#1) true h = rowAddTo n' l x g := by
  rw [storeIdx_eq_foldl]
  funext j
  have hof : ∀ k : Fin 16, ((Shape.ofLane (d := ![16]) k : S16.Idx) 0).val = k.val := fun k => rfl
  have key : ∀ k : Fin 16, (∀ a, (j a).val = (idxAt idxs h (Shape.ofLane (d := ![16]) k) a).val)
      ↔ ((j 0).val = l ∧ (j 1).val = n + k.val) := by
    intro k
    constructor
    · intro hc
      exact ⟨(hc 0).trans (hrow _), (hc 1).trans ((hcol _).trans (by rw [hof]))⟩
    · rintro ⟨h0, h1⟩ a
      match a with
      | 0 => exact h0.trans (hrow _).symm
      | 1 => exact h1.trans (((hcol _).trans (by rw [hof])).symm)
  by_cases hj : (j 0).val = l ∧ n ≤ (j 1).val ∧ (j 1).val < n'
  · obtain ⟨h0, h1, h2⟩ := hj
    rw [foldl_hit idxs v h j ⟨(j 1).val - n, by omega⟩ _ (List.nodup_finRange 16) (List.mem_finRange _)]
    · unfold rowAddTo
      rw [if_neg (by omega), if_pos ⟨h0, h2⟩]
      congr 1
      exact hv _ (j 1) (by rw [hof]; show (j 1).val = n + ((j 1).val - n); omega)
    · intro k
      refine (key k).trans (Iff.trans ?_ (Fin.ext_iff (n := 16)).symm)
      show _ ↔ k.val = (j 1).val - n
      omega
  · rw [foldl_miss idxs v h j]
    · unfold rowAddTo
      by_cases h0 : (j 0).val = l
      · by_cases h1 : (j 1).val < n
        · rw [if_pos ⟨h0, h1⟩, if_pos ⟨h0, by omega⟩]
        · rw [if_neg (by omega), if_neg (fun hc => hj ⟨h0, by omega, hc.2⟩)]
      · rw [if_neg (fun hc => h0 hc.1), if_neg (fun hc => h0 hc.1)]
    · intro k _ hc
      have := (key k).mp hc
      exact hj ⟨this.1, by omega, by omega⟩

end Lanes

/-! ## Many rows -/

/-- The accumulator after the first `k` of a list of rows, the `r`-th with label `lab r` and features `x r`. -/
def rowsAdd (lab : ℕ → ℕ) (x : ℕ → Fin 128 → F .f32) (g : Vec F S32x128 .f32) : ℕ → Vec F S32x128 .f32
  | 0 => g
  | k + 1 => rowAdd (lab k) (x k) (rowsAdd lab x g k)

/-- The rows' accumulator depends on the rows taken only. -/
theorem rowsAdd_congr (lab lab' : ℕ → ℕ) (x x' : ℕ → Fin 128 → F .f32) (g : Vec F S32x128 .f32) (k : ℕ)
    (hl : ∀ r < k, lab r = lab' r) (hx : ∀ r < k, x r = x' r) : rowsAdd lab x g k = rowsAdd lab' x' g k := by
  induction k with
  | zero => rfl
  | succ k ih =>
    show rowAdd _ _ _ = rowAdd _ _ _
    rw [hl k (Nat.lt_succ_self k), hx k (Nat.lt_succ_self k), ih (fun r hr => hl r (by omega)) (fun r hr => hx r (by omega))]

/-- First `n` rows, then `k` more. -/
theorem rowsAdd_add (lab : ℕ → ℕ) (x : ℕ → Fin 128 → F .f32) (g : Vec F S32x128 .f32) (n k : ℕ) :
    rowsAdd lab x g (n + k) = rowsAdd (fun r => lab (n + r)) (fun r => x (n + r)) (rowsAdd lab x g n) k := by
  induction k with
  | zero => rfl
  | succ k ih =>
    show rowAdd (lab (n + k)) (x (n + k)) (rowsAdd lab x g (n + k)) = rowAdd (lab (n + k)) (x (n + k)) _
    rw [ih]

end Cert.Proof.Accum

end
-- ==== Proof.Base.lean ====
/-
  The kernel's program as the launch theorem sees it, the proof's resources and the arrays' names. Over any float
  values `F`.
-/
module

public import proofs.«01_k».proof.Defs
public import proofs.«01_k».proof.Proof.Accum
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

variable [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none

/-- The SparseCore's semaphores are different and of the kinds they should be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the region's, beside the local copies' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

/-- The handshakes' rounds and the region's; the copies' counters are found by instance in the right factor. -/
def EH : Emb UH (MT nD τ sig (HIx 1) (Elt F) ℕ UU ℕ) := (Emb.inl : Emb UH (UH × UP)).trans embL
def EP : Emb UP (MT nD τ sig (HIx 1) (Elt F) ℕ UU ℕ) := (Emb.inr : Emb UP (UH × UP)).trans embL

omit [FloatOps F] in
instance EH_landsIn : (EH : Emb UH 𝕄).LandsIn (upEmb : UEmb _ 𝕄) := by unfold EH; infer_instance
omit [FloatOps F] in
instance EP_landsIn : (EP : Emb UP 𝕄).LandsIn (upEmb : UEmb _ 𝕄) := by unfold EP; infer_instance

/-! ## The arrays, as locations of device `d` -/

abbrev fLoc (d : Dev nD) : Loc nD τ sig := (SparseCore.T d).loc main_arg0
abbrev lLoc (d : Dev nD) : Loc nD τ sig := (SparseCore.T d).loc main_arg1
abbrev cLoc (d : Dev nD) : Loc nD τ sig := (SparseCore.T d).loc main_arg2
abbrev rLoc (d : Dev nD) : Loc nD τ sig := (SparseCore.T d).loc main_arg3
abbrev pLoc (d : Dev nD) : Loc nD τ sig := (SparseCore.T d).loc main_v0
abbrev oLoc (d : Dev nD) : Loc nD τ sig := (SparseCore.T d).loc main_v1
abbrev sLoc (d : Dev nD) : Loc nD τ sig := (SparseCore.T d).loc main_v2

/-- The SparseCore and the tile that run the kernel at coordinates `i`, and their thread. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-! ## The arrays and the scratches, as a tile names them -/

/-- The features, the labels and the partial sums. -/
abbrev fM : Memref sig .scVector .hbm S16384x128 .f32 := Memref.whole main_arg0_scv
abbrev lM : Memref sig .scVector .hbm S16384 .i32 := Memref.whole main_arg1_scv
abbrev pM : Memref sig .scVector .hbm S1024x128 .f32 := Memref.whole main_v0_scv

/-- The four blocks of rows that a tile fetches, its labels and its accumulator. -/
abbrev b0M : Memref sig .scVector .vmem S128x128 .f32 := Memref.whole cc0_scratch0
abbrev b1M : Memref sig .scVector .vmem S128x128 .f32 := Memref.whole cc0_scratch1
abbrev b2M : Memref sig .scVector .vmem S128x128 .f32 := Memref.whole cc0_scratch2
abbrev b3M : Memref sig .scVector .vmem S128x128 .f32 := Memref.whole cc0_scratch3
abbrev labM : Memref sig .scVector .vmem S512 .i32 := Memref.whole cc0_scratch4
abbrev accM : Memref sig .scVector .vmem S32x128 .f32 := Memref.whole cc0_scratch5

end Cert.Proof

end
-- ==== Proof.Trip.lean ====
/-
  One trip of a row loop, at a tile: it reads the row's label out of the fetched labels, the row's 128 features out of
  one of the four fetched blocks, and adds them to the accumulator's row of that label.
-/
module

public import proofs.«01_k».proof.Proof.Base
public import Idealize.ShloMosaic.Lib.ValueLayout

@[expose] public section

noncomputable section

namespace Cert.Proof

open Cert.KernelIdeal Cert.KernelIdeal.Gen Cert.Proof.Accum

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

section Trip

variable (d : Dev nD) (i : grid0.Coords)

/-- One trip over the block `b`: `r` is the row's number among the tile's 512, in all sixteen lanes, `k` its number in
    the block, `u0 … u7` the column numbers of the eight stores' lanes. -/
def rowTrip (b : Memref sig .scVector .vmem S128x128 .f32) (r : IVec S16 32) (k : Fin k0_t2_loop.trips)
    (u0 u1 u2 u3 u4 u5 u6 u7 : IVec S16 32) :
    Prog (TpuEff nD τ sig (Elt F) Λ₀ (.scVector (cV i) (jV i))) Unit := do
  have hr : k0_chk1 r := (← Prog.lift (TpuEff.assume (k0_chk1 r) (k0_chk1.dec r))).down
  let l : Vec F S16 .i32 ← SparseCore.vectorLoadIdx labM ![r] (k0_idx1_inb r hr) (View.loads_vmem h_S512)
  have hl : k0_chk2 u0 u1 u2 u3 u4 u5 u6 u7 l :=
    (← Prog.lift (TpuEff.assume (k0_chk2 u0 u1 u2 u3 u4 u5 u6 u7 l) (k0_chk2.dec u0 u1 u2 u3 u4 u5 u6 u7 l))).down
  let x0 : Vec F S1x16 .f32 ← Prog.lift (.load b (Rect.unit (s := S128x128) (k0_off11 k) S1x16.size (k0_off11_inb k)).toLoadRect (View.loadsAt_vmem h_S1x16))
  let x1 : Vec F S1x16 .f32 ← Prog.lift (.load b (Rect.unit (s := S128x128) (k0_off12 k) S1x16.size (k0_off12_inb k)).toLoadRect (View.loadsAt_vmem h_S1x16))
  let x2 : Vec F S1x16 .f32 ← Prog.lift (.load b (Rect.unit (s := S128x128) (k0_off13 k) S1x16.size (k0_off13_inb k)).toLoadRect (View.loadsAt_vmem h_S1x16))
  let x3 : Vec F S1x16 .f32 ← Prog.lift (.load b (Rect.unit (s := S128x128) (k0_off14 k) S1x16.size (k0_off14_inb k)).toLoadRect (View.loadsAt_vmem h_S1x16))
  let x4 : Vec F S1x16 .f32 ← Prog.lift (.load b (Rect.unit (s := S128x128) (k0_off15 k) S1x16.size (k0_off15_inb k)).toLoadRect (View.loadsAt_vmem h_S1x16))
  let x5 : Vec F S1x16 .f32 ← Prog.lift (.load b (Rect.unit (s := S128x128) (k0_off16 k) S1x16.size (k0_off16_inb k)).toLoadRect (View.loadsAt_vmem h_S1x16))
  let x6 : Vec F S1x16 .f32 ← Prog.lift (.load b (Rect.unit (s := S128x128) (k0_off17 k) S1x16.size (k0_off17_inb k)).toLoadRect (View.loadsAt_vmem h_S1x16))
  let x7 : Vec F S1x16 .f32 ← Prog.lift (.load b (Rect.unit (s := S128x128) (k0_off18 k) S1x16.size (k0_off18_inb k)).toLoadRect (View.loadsAt_vmem h_S1x16))
  SparseCore.vectorStoreIdx accM ![l, u0] (k0_pay12 x0) (fun _ => 1#1) true (k0_idx2_inb u0 u1 u2 u3 u4 u5 u6 u7 l hl) (View.stores_vmem_bits_univ h_S32x128 rfl)
  SparseCore.vectorStoreIdx accM ![l, u1] (k0_pay13 x1) (fun _ => 1#1) true (k0_idx3_inb u0 u1 u2 u3 u4 u5 u6 u7 l hl) (View.stores_vmem_bits_univ h_S32x128 rfl)
  SparseCore.vectorStoreIdx accM ![l, u2] (k0_pay14 x2) (fun _ => 1#1) true (k0_idx4_inb u0 u1 u2 u3 u4 u5 u6 u7 l hl) (View.stores_vmem_bits_univ h_S32x128 rfl)
  SparseCore.vectorStoreIdx accM ![l, u3] (k0_pay15 x3) (fun _ => 1#1) true (k0_idx5_inb u0 u1 u2 u3 u4 u5 u6 u7 l hl) (View.stores_vmem_bits_univ h_S32x128 rfl)
  SparseCore.vectorStoreIdx accM ![l, u4] (k0_pay16 x4) (fun _ => 1#1) true (k0_idx6_inb u0 u1 u2 u3 u4 u5 u6 u7 l hl) (View.stores_vmem_bits_univ h_S32x128 rfl)
  SparseCore.vectorStoreIdx accM ![l, u5] (k0_pay17 x5) (fun _ => 1#1) true (k0_idx7_inb u0 u1 u2 u3 u4 u5 u6 u7 l hl) (View.stores_vmem_bits_univ h_S32x128 rfl)
  SparseCore.vectorStoreIdx accM ![l, u6] (k0_pay18 x6) (fun _ => 1#1) true (k0_idx8_inb u0 u1 u2 u3 u4 u5 u6 u7 l hl) (View.stores_vmem_bits_univ h_S32x128 rfl)
  SparseCore.vectorStoreIdx accM ![l, u7] (k0_pay19 x7) (fun _ => 1#1) true (k0_idx9_inb u0 u1 u2 u3 u4 u5 u6 u7 l hl) (View.stores_vmem_bits_univ h_S32x128 rfl)
  pure ⟨⟩

/-- Row `k` of the block `b` at the contents `x`. -/
def blockRow (b : Memref sig .scVector .vmem S128x128 .f32) (x : Buf (Elt F) (b.view.loc (thr d i))) (k : Fin 128) (c : Fin 128) : F .f32 :=
  b.view.read (Elt F) x (ix2 k c)

/-- The label's read: an indexed load whose lanes all name element `n` of the labels gives that element in every lane. -/
theorem labelLoad_wp {r : IVec S16 32} {h : ∀ a y, ((![r] : Fin 1 → IVec S16 32) a y).toNat < S512.size a} {hl : (labM).view.Loads}
    {α : Type} {Q : α → sProp 𝕄} {k : Vec F S16 .i32 → Prog (TpuEff nD τ sig (Elt F) Λ₀ (thr d i).2) α}
    (n : Fin 512) (hr : ∀ y, (r y).toNat = n.val) (lab : Vec F S512 .i32) :
    ((labM).view.loc (thr d i) ↦{fullShare} lab : sProp 𝕄)
      ⊢ iprop((((labM).view.loc (thr d i) ↦{fullShare} lab) -∗ wp frame (wpE (defs₀ (F := F)) 𝒱₀ (thr d i) none) Set.univ (k (fun _ => lab (ix1 n))) Q)
        -∗ wp frame (wpE (defs₀ (F := F)) 𝒱₀ (thr d i) none) Set.univ (SparseCore.vectorLoadIdx labM ![r] h hl >>= k) Q) := by
  have key := SparseCore.wp_vectorLoadIdx (defs := defs₀ (F := F)) (Q := Q) (base := Memref.whole cc0_scratch4) (idxs := ![r]) (h := h) (hl := hl) (k := k)
    (q := fullShare) (f := lab) 𝒱₀ (thr d i) none Set.univ (Finset.subset_univ _)
  have e : loadIdx (F := F) (e := .i32) lab ![r] h = fun _ => lab (ix1 n) := by
    funext y
    refine congrArg lab ?_
    funext a
    match a with
    | 0 => exact Fin.ext (hr y)
  rw [Memref.read_access_whole] at key
  rw [← e]
  exact key

/-- One of a trip's eight stores. -/
theorem accStore_wp {l u : IVec S16 32} {v : Vec F S16 .f32} {h : ∀ a y, ((![l, u] : Fin 2 → IVec S16 32) a y).toNat < S32x128.size a}
    {hs : ((accM).access (.whole S32x128)).Stores Finset.univ}
    {α : Type} {Q : α → sProp 𝕄} {k : PUnit → Prog (TpuEff nD τ sig (Elt F) Λ₀ (thr d i).2) α}
    (c n n' : ℕ) (hn : n + 16 = n') (hn' : n' ≤ 128) (x : Fin 128 → F .f32) (g : Vec F S32x128 .f32)
    (hrow : ∀ y, (l y).toNat = c) (hcol : ∀ y : S16.Idx, (u y).toNat = n + (y 0).val)
    (hv : ∀ (y : S16.Idx) (c : Fin 128), c.val = n + (y 0).val → v y = x c) :
    ((accM).view.loc (thr d i) ↦{fullShare} (rowAddTo n c x g) : sProp 𝕄)
      ⊢ iprop((((accM).view.loc (thr d i) ↦{fullShare} (rowAddTo n' c x g)) -∗ wp frame (wpE (defs₀ (F := F)) 𝒱₀ (thr d i) none) Set.univ (k ⟨⟩) Q)
        -∗ wp frame (wpE (defs₀ (F := F)) 𝒱₀ (thr d i) none) Set.univ (SparseCore.vectorStoreIdx accM ![l, u] v (fun _ => 1#1) true h hs >>= k) Q) := by
  have key := SparseCore.wp_vectorStoreIdx (defs := defs₀ (F := F)) (Q := Q) (base := Memref.whole cc0_scratch5) (idxs := ![l, u]) (v := v)
    (mask := fun _ => 1#1) (add := true) (h := h) (hs := hs) (k := k) (f := rowAddTo n c x g) 𝒱₀ (thr d i) none Set.univ
  rw [Memref.set_access_whole, Memref.write_access_whole_univ, Memref.read_access_whole] at key
  have e := storeIdx_step ![l, u] v h c n n' hn hn' x g hrow hcol hv
  rw [← e]
  exact key

/-- What the `n`-column store adds: lane `y` of the sixteen loaded at `(k, n)` is the row's column `n + y`. -/
theorem lane_eq (b : Memref sig .scVector .vmem S128x128 .f32) (x : Buf (Elt F) (b.view.loc (thr d i))) (k : Fin 128)
    (n : ℕ) {off : Fin 2 → ℕ} (hoff : off = ![k.val, n]) (inb : ∀ a, off a + S1x16.size a ≤ S128x128.size a) (y : S16.Idx) (c : Fin 128)
    (hc : c.val = n + (y 0).val) :
    shapeCast S16 (b.view.readAt (Elt F) (Rect.unit (s := S128x128) off S1x16.size inb).toLoadRect x) shapeCasts_S1x16_S16 y
      = blockRow d i b x k c := by
  subst hoff
  rw [eq_ix1 y]
  refine (ValueIdx.shapeCast_1a_a_apply (a := 16) _ shapeCasts_S1x16_S16 (y 0)).trans ?_
  rw [View.readAt_apply]
  unfold blockRow
  congr 1
  funext a
  match a with
  | 0 => exact Fin.ext (by simp)
  | 1 => exact Fin.ext (by simpa using hc.symm)

set_option maxHeartbeats 4000000 in
/-- One trip adds the row to the accumulator, and leaves the labels and the block as they are. -/
theorem rowTrip_wp (b : Memref sig .scVector .vmem S128x128 .f32) (r : IVec S16 32) (k : Fin k0_t2_loop.trips)
    (u0 u1 u2 u3 u4 u5 u6 u7 : IVec S16 32)
    (k' : Fin 128) (hk' : k.val = k'.val) (n : Fin 512) (hr : ∀ y, (r y).toNat = n.val)
    (h0 : ∀ y : S16.Idx, (u0 y).toNat = 0 + (y 0).val) (h1 : ∀ y : S16.Idx, (u1 y).toNat = 16 + (y 0).val)
    (h2 : ∀ y : S16.Idx, (u2 y).toNat = 32 + (y 0).val) (h3 : ∀ y : S16.Idx, (u3 y).toNat = 48 + (y 0).val)
    (h4 : ∀ y : S16.Idx, (u4 y).toNat = 64 + (y 0).val) (h5 : ∀ y : S16.Idx, (u5 y).toNat = 80 + (y 0).val)
    (h6 : ∀ y : S16.Idx, (u6 y).toNat = 96 + (y 0).val) (h7 : ∀ y : S16.Idx, (u7 y).toNat = 112 + (y 0).val)
    (lab : Vec F S512 .i32) (hlab : ∀ j, (lab j).toNat < 26) (g : Vec F S32x128 .f32)
    (x : Buf (Elt F) (b.view.loc (thr d i))) (Q : Unit → sProp 𝕄) :
    iprop(((labM).view.loc (thr d i) ↦{fullShare} lab) ∗ ((accM).view.loc (thr d i) ↦{fullShare} g) ∗ (b.view.loc (thr d i) ↦{fullShare} x)
        ∗ ((((labM).view.loc (thr d i) ↦{fullShare} lab)
            ∗ ((accM).view.loc (thr d i) ↦{fullShare} (rowAdd (lab (ix1 n)).toNat (blockRow d i b x k') g))
            ∗ (b.view.loc (thr d i) ↦{fullShare} x)) -∗ Q ⟨⟩))
      ⊢ wp frame (wpE (defs₀ (F := F)) 𝒱₀ (thr d i) none) Set.univ (rowTrip i b r k u0 u1 u2 u3 u4 u5 u6 u7) Q := by
  have hr' : k0_chk1 r := by
    intro a y
    match a with
    | 0 => show (r y).toNat < 512; rw [hr]; exact n.isLt
  unfold rowTrip
  iintro ⟨Hl, Ha, Hb, HQ⟩
  sl_exec
  iapply (labelLoad_wp d i n hr lab) $$ Hl
  iintro Hl
  have hl : k0_chk2 u0 u1 u2 u3 u4 u5 u6 u7 (fun _ => lab (ix1 n)) := by
    let l : IVec S16 32 := fun _ => lab (ix1 n)
    have hb : ∀ (n : ℕ) (u : IVec S16 32), (∀ y : S16.Idx, (u y).toNat = n + (y 0).val) → n + 16 ≤ 128 →
        ∀ a y, ((![l, u] : Fin 2 → IVec S16 32) a y).toNat < S32x128.size a := by
      intro n u hu hn a y
      match a with
      | 0 => exact (hlab _).trans (by decide)
      | 1 =>
        have hy : (y 0).val < 16 := (y 0).isLt
        show (u y).toNat < 128
        rw [hu]; omega
    exact ⟨hb 0 u0 h0 (by decide), hb 16 u1 h1 (by decide), hb 32 u2 h2 (by decide), hb 48 u3 h3 (by decide),
      hb 64 u4 h4 (by decide), hb 80 u5 h5 (by decide), hb 96 u6 h6 (by decide), hb 112 u7 h7 (by decide)⟩
  sl_exec
  rw [show g = rowAddTo 0 (lab (ix1 n)).toNat (blockRow d i b x k') g from (rowAddTo_zero _ _ _).symm]
  iapply (accStore_wp d i (lab (ix1 n)).toNat 0 16 rfl (by decide) (blockRow d i b x k') g (fun _ => rfl) h0
    (by intro y c hc; exact lane_eq d i b x k' 0 ((k0_off11_eq k).trans (by rw [hk'])) (k0_off11_inb k) y c hc)) $$ Ha
  iintro Ha
  iapply (accStore_wp d i (lab (ix1 n)).toNat 16 32 rfl (by decide) (blockRow d i b x k') g (fun _ => rfl) h1
    (by intro y c hc; exact lane_eq d i b x k' 16 ((k0_off12_eq k).trans (by rw [hk'])) (k0_off12_inb k) y c hc)) $$ Ha
  iintro Ha
  iapply (accStore_wp d i (lab (ix1 n)).toNat 32 48 rfl (by decide) (blockRow d i b x k') g (fun _ => rfl) h2
    (by intro y c hc; exact lane_eq d i b x k' 32 ((k0_off13_eq k).trans (by rw [hk'])) (k0_off13_inb k) y c hc)) $$ Ha
  iintro Ha
  iapply (accStore_wp d i (lab (ix1 n)).toNat 48 64 rfl (by decide) (blockRow d i b x k') g (fun _ => rfl) h3
    (by intro y c hc; exact lane_eq d i b x k' 48 ((k0_off14_eq k).trans (by rw [hk'])) (k0_off14_inb k) y c hc)) $$ Ha
  iintro Ha
  iapply (accStore_wp d i (lab (ix1 n)).toNat 64 80 rfl (by decide) (blockRow d i b x k') g (fun _ => rfl) h4
    (by intro y c hc; exact lane_eq d i b x k' 64 ((k0_off15_eq k).trans (by rw [hk'])) (k0_off15_inb k) y c hc)) $$ Ha
  iintro Ha
  iapply (accStore_wp d i (lab (ix1 n)).toNat 80 96 rfl (by decide) (blockRow d i b x k') g (fun _ => rfl) h5
    (by intro y c hc; exact lane_eq d i b x k' 80 ((k0_off16_eq k).trans (by rw [hk'])) (k0_off16_inb k) y c hc)) $$ Ha
  iintro Ha
  iapply (accStore_wp d i (lab (ix1 n)).toNat 96 112 rfl (by decide) (blockRow d i b x k') g (fun _ => rfl) h6
    (by intro y c hc; exact lane_eq d i b x k' 96 ((k0_off17_eq k).trans (by rw [hk'])) (k0_off17_inb k) y c hc)) $$ Ha
  iintro Ha
  iapply (accStore_wp d i (lab (ix1 n)).toNat 112 128 rfl (by decide) (blockRow d i b x k') g (fun _ => rfl) h7
    (by intro y c hc; exact lane_eq d i b x k' 112 ((k0_off18_eq k).trans (by rw [hk'])) (k0_off18_inb k) y c hc)) $$ Ha
  iintro Ha
  rw [rowAddTo_full, rowAddTo_zero]
  sl_step
  iapply HQ
  isplitl [Hl]; · iexact Hl
  isplitl [Ha]; · iexact Ha
  iexact Hb

end Trip

end Cert.Proof

end
-- ==== Proof.Loops.lean ====
/-
  The tile's loops: the one that zeroes the accumulator, and the row loops, one per fetched block of 128 rows.
-/
module

public import proofs.«01_k».proof.Proof.Trip

@[expose] public section

noncomputable section

namespace Cert.Proof

open Cert.KernelIdeal Cert.KernelIdeal.Gen Cert.Proof.Accum

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

/-! ## The row loops -/

section Rows

variable (d : Dev nD) (i : grid0.Coords)

/-- The label of the tile's row `r`, and row `r` of a block, at any natural number `r`. -/
def tileLab (lab : Vec F S512 .i32) (r : ℕ) : ℕ := (lab (ix1 (Fin.ofNat 512 r))).toNat
def tileRow (b : Memref sig .scVector .vmem S128x128 .f32) (x : Buf (Elt F) (b.view.loc (thr d i))) (r : ℕ) : Fin 128 → F .f32 :=
  blockRow d i b x (Fin.ofNat 128 r)

/-- A row loop adds its block's 128 rows to the accumulator, one after the other. `n` is the number of the block's
    first row among the tile's 512. -/
theorem rowLoop_wp (b : Memref sig .scVector .vmem S128x128 .f32) (n : ℕ) (hn : n + 128 ≤ 512) (r : Fin k0_t2_loop.trips → IVec S16 32)
    (hr : ∀ k y, (r k y).toNat = n + k.val) (u0 u1 u2 u3 u4 u5 u6 u7 : IVec S16 32)
    (h0 : ∀ y : S16.Idx, (u0 y).toNat = 0 + (y 0).val) (h1 : ∀ y : S16.Idx, (u1 y).toNat = 16 + (y 0).val)
    (h2 : ∀ y : S16.Idx, (u2 y).toNat = 32 + (y 0).val) (h3 : ∀ y : S16.Idx, (u3 y).toNat = 48 + (y 0).val)
    (h4 : ∀ y : S16.Idx, (u4 y).toNat = 64 + (y 0).val) (h5 : ∀ y : S16.Idx, (u5 y).toNat = 80 + (y 0).val)
    (h6 : ∀ y : S16.Idx, (u6 y).toNat = 96 + (y 0).val) (h7 : ∀ y : S16.Idx, (u7 y).toNat = 112 + (y 0).val)
    (lab : Vec F S512 .i32) (hlab : ∀ j, (lab j).toNat < 26) (g : Vec F S32x128 .f32)
    (x : Buf (Elt F) (b.view.loc (thr d i))) {β : Type} (kk : Unit → Prog (TpuEff nD τ sig (Elt F) Λ₀ (.scVector (cV i) (jV i))) β)
    (Q : β → sProp 𝕄) :
    iprop(((labM).view.loc (thr d i) ↦{fullShare} lab) ∗ ((accM).view.loc (thr d i) ↦{fullShare} g) ∗ (b.view.loc (thr d i) ↦{fullShare} x)
        ∗ ((((labM).view.loc (thr d i) ↦{fullShare} lab)
            ∗ ((accM).view.loc (thr d i) ↦{fullShare} (rowsAdd (fun k => tileLab lab (n + k)) (tileRow d i b x) g 128))
            ∗ (b.view.loc (thr d i) ↦{fullShare} x)) -∗ wp frame (wpE (defs₀ (F := F)) 𝒱₀ (thr d i) none) Set.univ (kk ⟨⟩) Q))
      ⊢ wp frame (wpE (defs₀ (F := F)) 𝒱₀ (thr d i) none) Set.univ
          (Scf.Loop.for k0_t2_loop k0_t2_ok ⟨⟩ (fun k _ => rowTrip i b (r k) k u0 u1 u2 u3 u4 u5 u6 u7) >>= kk) Q := by
  have hbody : ∀ (k : Fin k0_t2_loop.trips) (_ : Unit),
      iprop(((labM).view.loc (thr d i) ↦{fullShare} lab)
            ∗ ((accM).view.loc (thr d i) ↦{fullShare} (rowsAdd (fun k => tileLab lab (n + k)) (tileRow d i b x) g k.val))
            ∗ (b.view.loc (thr d i) ↦{fullShare} x))
        ⊢ wp frame (wpE (defs₀ (F := F)) 𝒱₀ (thr d i) none) Set.univ (rowTrip i b (r k) k u0 u1 u2 u3 u4 u5 u6 u7)
          fun _ => iprop(((labM).view.loc (thr d i) ↦{fullShare} lab)
            ∗ ((accM).view.loc (thr d i) ↦{fullShare} (rowsAdd (fun k => tileLab lab (n + k)) (tileRow d i b x) g (k.val + 1)))
            ∗ (b.view.loc (thr d i) ↦{fullShare} x) : sProp 𝕄) := by
    intro k _
    have hk : k.val < 128 := k.isLt
    have hlk : tileLab lab (n + k.val) = (lab (ix1 (⟨n + k.val, by omega⟩ : Fin 512))).toNat := by
      unfold tileLab; congr 3; exact Fin.ext (Nat.mod_eq_of_lt (by omega))
    have hxk : tileRow d i b x k.val = blockRow d i b x ⟨k.val, hk⟩ := by
      unfold tileRow; congr 1; exact Fin.ext (Nat.mod_eq_of_lt (by omega))
    have hs : rowsAdd (fun k => tileLab lab (n + k)) (tileRow d i b x) g (k.val + 1)
        = rowAdd (lab (ix1 (⟨n + k.val, by omega⟩ : Fin 512))).toNat (blockRow d i b x ⟨k.val, hk⟩)
            (rowsAdd (fun k => tileLab lab (n + k)) (tileRow d i b x) g k.val) := by
      rw [← hlk, ← hxk]; rfl
    rw [hs]
    iintro ⟨Hl, Ha, Hb⟩
    iapply (rowTrip_wp d i b (r k) k u0 u1 u2 u3 u4 u5 u6 u7 ⟨k.val, hk⟩ rfl ⟨n + k.val, by omega⟩ (hr k)
      h0 h1 h2 h3 h4 h5 h6 h7 lab hlab (rowsAdd (fun k => tileLab lab (n + k)) (tileRow d i b x) g k.val) x _)
    isplitl [Hl]; · iexact Hl
    isplitl [Ha]; · iexact Ha
    isplitl [Hb]; · iexact Hb
    iintro H
    iexact H
  have hfor := Scf.wp_for_bind frame (wpE (defs₀ (F := F)) 𝒱₀ (thr d i) none) Set.univ _ _ _ k0_t2_ok ⟨⟩
    (fun k _ => rowTrip i b (r k) k u0 u1 u2 u3 u4 u5 u6 u7)
    (fun k _ => iprop(((labM).view.loc (thr d i) ↦{fullShare} lab)
            ∗ ((accM).view.loc (thr d i) ↦{fullShare} (rowsAdd (fun k => tileLab lab (n + k)) (tileRow d i b x) g k))
            ∗ (b.view.loc (thr d i) ↦{fullShare} x))) hbody (kk := kk) (Q := Q)
  iintro ⟨Hl, Ha, Hb, HK⟩
  iapply hfor $$ [Hl Ha Hb]
  · isplitl [Hl]; · iexact Hl
    isplitl [Ha]; · iexact Ha
    iexact Hb
  · iintro %_ H
    iapply HK
    iexact H

end Rows

/-! ## The zero loop -/

section Zero

variable (d : Dev nD) (i : grid0.Coords)

/-- The value the kernel zeroes with. -/
def zf : F .f32 := Scalar.ofBits .f32 0x00000000#32

/-- `g` with the first `n` columns of row `k` zeroed. -/
def zeroTo (k n : ℕ) (g : Vec F S32x128 .f32) : Vec F S32x128 .f32 :=
  fun j => if (j 0).val = k ∧ (j 1).val < n then zf else g j

/-- No columns: the accumulator as it was. -/
theorem zeroTo_zero (k : ℕ) (g : Vec F S32x128 .f32) : zeroTo k 0 g = g := by
  funext j; simp [zeroTo]

/-- One of a trip's eight stores of zeros, after those before it. -/
theorem zeroTo_step (k n n' : ℕ) (hn : n + 16 = n') {off : Fin 2 → ℕ} (hoff : off = ![k, n])
    (inb : ∀ a, off a + S1x16.size a ≤ S32x128.size a) (g : Vec F S32x128 .f32) (L : List (View.Piece (Elt F) S32x128 .f32))
    (hL : (accM).view.writes (Elt F) g L = zeroTo k n g) :
    (accM).view.writes (Elt F) g (⟨Rect.unit (s := S32x128) off S1x16.size inb, shapeCast S1x16 (k0_pay1 (F := F)) shapeCasts_S16_S1x16⟩ :: L)
      = zeroTo k n' g := by
  subst hoff
  rw [View.writes_cons, hL]
  funext j
  by_cases hj : (j 0).val = k ∧ n ≤ (j 1).val ∧ (j 1).val < n'
  · obtain ⟨h0, h1, h2⟩ := hj
    have hx : ((accM).view.slice (Rect.unit (s := S32x128) ![k, n] S1x16.size inb)).emb
        (ix2 (0 : Fin 1) (⟨(j 1).val - n, by omega⟩ : Fin 16)) = j := by
      funext a
      match a with
      | 0 => exact Fin.ext (show k + 1 * 0 = (j 0).val by omega)
      | 1 => exact Fin.ext (show n + 1 * ((j 1).val - n) = (j 1).val by omega)
    rw [← hx, View.write_emb_of_mem _ _ (Finset.mem_univ _), hx]
    unfold zeroTo
    rw [if_pos ⟨h0, h2⟩]
    rfl
  · rw [View.write_of_not_mem]
    · unfold zeroTo
      by_cases h0 : (j 0).val = k
      · by_cases h1 : (j 1).val < n
        · rw [if_pos ⟨h0, h1⟩, if_pos ⟨h0, by omega⟩]
        · rw [if_neg (by omega), if_neg (fun hc => hj ⟨h0, by omega, hc.2⟩)]
      · rw [if_neg (fun hc => h0 hc.1), if_neg (fun hc => h0 hc.1)]
    · intro hc
      obtain ⟨x, -, hx⟩ := Finset.mem_map.mp hc
      apply hj
      have hx0 : (x 0).val < 1 := (x 0).isLt
      have hx1 : (x 1).val < 16 := (x 1).isLt
      have e0 : (j 0).val = k + 1 * (x 0).val := by rw [← hx]; rfl
      have e1 : (j 1).val = n + 1 * (x 1).val := by rw [← hx]; rfl
      omega

/-- A trip of the zero loop zeroes row `k` of the accumulator. -/
theorem zeroTrip_eq (k : Fin k0_t1_loop.trips) (g : Vec F S32x128 .f32) :
    (accM).view.writes (Elt F) g
      [⟨Rect.unit (s := S32x128) (k0_off10 k) S1x16.size (k0_off10_inb k), shapeCast S1x16 (k0_pay1 (F := F)) shapeCasts_S16_S1x16⟩,
       ⟨Rect.unit (s := S32x128) (k0_off9 k) S1x16.size (k0_off9_inb k), shapeCast S1x16 (k0_pay1 (F := F)) shapeCasts_S16_S1x16⟩,
       ⟨Rect.unit (s := S32x128) (k0_off8 k) S1x16.size (k0_off8_inb k), shapeCast S1x16 (k0_pay1 (F := F)) shapeCasts_S16_S1x16⟩,
       ⟨Rect.unit (s := S32x128) (k0_off7 k) S1x16.size (k0_off7_inb k), shapeCast S1x16 (k0_pay1 (F := F)) shapeCasts_S16_S1x16⟩,
       ⟨Rect.unit (s := S32x128) (k0_off6 k) S1x16.size (k0_off6_inb k), shapeCast S1x16 (k0_pay1 (F := F)) shapeCasts_S16_S1x16⟩,
       ⟨Rect.unit (s := S32x128) (k0_off5 k) S1x16.size (k0_off5_inb k), shapeCast S1x16 (k0_pay1 (F := F)) shapeCasts_S16_S1x16⟩,
       ⟨Rect.unit (s := S32x128) (k0_off4 k) S1x16.size (k0_off4_inb k), shapeCast S1x16 (k0_pay1 (F := F)) shapeCasts_S16_S1x16⟩,
       ⟨Rect.unit (s := S32x128) (k0_off3 k) S1x16.size (k0_off3_inb k), shapeCast S1x16 (k0_pay1 (F := F)) shapeCasts_S16_S1x16⟩]
      = zeroTo k.val 128 g := by
  refine zeroTo_step k.val 112 128 rfl (k0_off10_eq k) (k0_off10_inb k) g _ ?_
  refine zeroTo_step k.val 96 112 rfl (k0_off9_eq k) (k0_off9_inb k) g _ ?_
  refine zeroTo_step k.val 80 96 rfl (k0_off8_eq k) (k0_off8_inb k) g _ ?_
  refine zeroTo_step k.val 64 80 rfl (k0_off7_eq k) (k0_off7_inb k) g _ ?_
  refine zeroTo_step k.val 48 64 rfl (k0_off6_eq k) (k0_off6_inb k) g _ ?_
  refine zeroTo_step k.val 32 48 rfl (k0_off5_eq k) (k0_off5_inb k) g _ ?_
  refine zeroTo_step k.val 16 32 rfl (k0_off4_eq k) (k0_off4_inb k) g _ ?_
  refine zeroTo_step k.val 0 16 rfl (k0_off3_eq k) (k0_off3_inb k) g _ ?_
  rw [zeroTo_zero]; rfl

/-- One trip of the zero loop: eight stores of sixteen zeros each. -/
def zeroTrip (k : Fin k0_t1_loop.trips) : Prog (TpuEff nD τ sig (Elt F) Λ₀ (.scVector (cV i) (jV i))) Unit := do
  let _ : Vec F S1x16 .f32 ← Prog.lift (.load accM (Rect.unit (s := S32x128) (k0_off3 k) S1x16.size (k0_off3_inb k)).toLoadRect (View.loadsAt_vmem h_S1x16))
  Prog.lift (.store accM (Rect.unit (s := S32x128) (k0_off3 k) S1x16.size (k0_off3_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off4 k) S1x16.size (k0_off4_inb k)).toLoadRect (View.loadsAt_vmem h_S1x16))
  Prog.lift (.store accM (Rect.unit (s := S32x128) (k0_off4 k) S1x16.size (k0_off4_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off5 k) S1x16.size (k0_off5_inb k)).toLoadRect (View.loadsAt_vmem h_S1x16))
  Prog.lift (.store accM (Rect.unit (s := S32x128) (k0_off5 k) S1x16.size (k0_off5_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off6 k) S1x16.size (k0_off6_inb k)).toLoadRect (View.loadsAt_vmem h_S1x16))
  Prog.lift (.store accM (Rect.unit (s := S32x128) (k0_off6 k) S1x16.size (k0_off6_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off7 k) S1x16.size (k0_off7_inb k)).toLoadRect (View.loadsAt_vmem h_S1x16))
  Prog.lift (.store accM (Rect.unit (s := S32x128) (k0_off7 k) S1x16.size (k0_off7_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off8 k) S1x16.size (k0_off8_inb k)).toLoadRect (View.loadsAt_vmem h_S1x16))
  Prog.lift (.store accM (Rect.unit (s := S32x128) (k0_off8 k) S1x16.size (k0_off8_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off9 k) S1x16.size (k0_off9_inb k)).toLoadRect (View.loadsAt_vmem h_S1x16))
  Prog.lift (.store accM (Rect.unit (s := S32x128) (k0_off9 k) S1x16.size (k0_off9_inb k)) (shapeCast S1x16 (k0_pay1 (F := F)) shapeCasts_S16_S1x16) Finset.univ (View.stores_vmem_bits_univ h_S1x16 rfl) (.inl rfl))
  let _ : Vec F S1x16 .f32 ← Prog.lift (.load accM (Rect.unit (s := S32x128) (k0_off10 k) S1x16.size (k0_off10_inb k)).toLoadRect (View.loadsAt_vmem h_S1x16))
  Prog.lift (.store accM (Rect.unit (s := S32x128) (k0_off10 k) S1x16.size (k0_off10_inb k)) (shapeCast S1x16 (k0_pay1 (F := F)) shapeCasts_S16_S1x16) Finset.univ (View.stores_vmem_bits_univ h_S1x16 rfl) (.inl rfl))
  pure ⟨⟩

/-- The accumulator with its rows below `k` zeroed. -/
def zeroRows (k : ℕ) (g : Vec F S32x128 .f32) : Vec F S32x128 .f32 := fun j => if (j 0).val < k then zf else g j

/-- One more row zeroed. -/
theorem zeroRows_succ (k : ℕ) (g : Vec F S32x128 .f32) : zeroTo k 128 (zeroRows k g) = zeroRows (k + 1) g := by
  funext j
  have h1 : (j 1).val < 128 := (j 1).isLt
  unfold zeroTo zeroRows
  by_cases h : (j 0).val = k
  · rw [if_pos ⟨h, h1⟩, if_pos (by omega)]
  · rw [if_neg (fun hc => h hc.1)]
    by_cases h' : (j 0).val < k
    · rw [if_pos h', if_pos (by omega)]
    · rw [if_neg h', if_neg (by omega)]

/-- No rows: the accumulator as it was. -/
theorem zeroRows_zero (g : Vec F S32x128 .f32) : zeroRows 0 g = g := by
  funext j; exact if_neg (Nat.not_lt_zero _)

/-- All rows: zeros everywhere. -/
theorem zeroRows_full (g : Vec F S32x128 .f32) : zeroRows 32 g = fun _ => zf := by
  funext j; exact if_pos (j 0).isLt

set_option maxHeartbeats 4000000 in
/-- One trip of the loop of zeros zeroes one row. -/
theorem zeroTrip_wp (k : Fin k0_t1_loop.trips) (g : Vec F S32x128 .f32) :
    (accM.view.loc (thr d i) ↦{fullShare} g : sProp 𝕄)
      ⊢ wp frame (wpE (defs₀ (F := F)) 𝒱₀ (thr d i) none) Set.univ (zeroTrip i k) fun _ =>
        (accM.view.loc (thr d i) ↦{fullShare} zeroTo k.val 128 g : sProp 𝕄) := by
  unfold zeroTrip
  rw [← zeroTrip_eq k g]
  iintro Ha
  sl_exec
  sl_step
  iexact Ha

/-- The zero loop leaves the accumulator at zero. -/
theorem zeroLoop_wp (g : Vec F S32x128 .f32) {β : Type} (kk : Unit → Prog (TpuEff nD τ sig (Elt F) Λ₀ (.scVector (cV i) (jV i))) β)
    (Q : β → sProp 𝕄) :
    iprop((accM.view.loc (thr d i) ↦{fullShare} g)
        ∗ ((accM.view.loc (thr d i) ↦{fullShare} ((fun _ => zf) : Vec F S32x128 .f32))
            -∗ wp frame (wpE (defs₀ (F := F)) 𝒱₀ (thr d i) none) Set.univ (kk ⟨⟩) Q))
      ⊢ wp frame (wpE (defs₀ (F := F)) 𝒱₀ (thr d i) none) Set.univ
          (Scf.Loop.for k0_t1_loop k0_t1_ok ⟨⟩ (fun k _ => zeroTrip i k) >>= kk) Q := by
  have hbody : ∀ (k : Fin k0_t1_loop.trips) (_ : Unit),
      (accM.view.loc (thr d i) ↦{fullShare} zeroRows k.val g : sProp 𝕄)
        ⊢ wp frame (wpE (defs₀ (F := F)) 𝒱₀ (thr d i) none) Set.univ (zeroTrip i k)
          fun _ => (accM.view.loc (thr d i) ↦{fullShare} zeroRows (k.val + 1) g : sProp 𝕄) := by
    intro k _
    rw [← zeroRows_succ]
    exact zeroTrip_wp d i k _
  have hfor := Scf.wp_for_bind frame (wpE (defs₀ (F := F)) 𝒱₀ (thr d i) none) Set.univ _ _ _ k0_t1_ok ⟨⟩
    (fun k _ => zeroTrip i k) (fun k _ => (accM.view.loc (thr d i) ↦{fullShare} zeroRows k g : sProp 𝕄)) hbody (kk := kk) (Q := Q)
  have h32 : zeroRows k0_t1_loop.trips g = fun _ => zf := zeroRows_full g
  rw [zeroRows_zero] at hfor
  iintro ⟨Ha, HK⟩
  iapply hfor $$ [Ha]
  · iexact Ha
  · iintro %_ H
    iapply HK
    ihave H' := (Entails.of_eq (congrArg (fun v => (accM.view.loc (thr d i) ↦{fullShare} v : sProp 𝕄)) h32)) $$ H
    iexact H'

end Zero

end Cert.Proof

end
-- ==== Proof.Out.lean ====
/-
  A tile's copies of its accumulator's 32 rows into its 32 rows of the partial sums, each started and then waited for.
-/
module

public import proofs.«01_k».proof.Proof.Loops

@[expose] public section

noncomputable section

namespace Cert.Proof

open Cert.KernelIdeal Cert.KernelIdeal.Gen Cert.Proof.Accum

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

section Out

variable (d : Dev nD) (i : grid0.Coords)

/-- A row of the accumulator is inside it. -/
theorem accRow_inb (r : Fin 32) : ∀ a, (![r.val, 0] : Fin 2 → ℕ) a + S1x128.size a ≤ S32x128.size a := by
  revert r; decide

/-- Row `r` of the accumulator, and the row of the partial sums that it is copied into. -/
abbrev accRow (r : Fin 32) : Memref sig .scVector .vmem S128 .f32 :=
  (accM.slice (Rect.unit (s := S32x128) ![r.val, 0] S1x128.size (accRow_inb r)) (fun _ => rfl)).squeeze S128 squeezes_S1x128_S128
abbrev outRow (r : Fin 32) : Memref sig .scVector .hbm S128 .f32 :=
  (pM.slice (Rect.unit (s := S1024x128) (k0_off44 i (BitVec.ofNat 32 r.val)) S1x128.size (k0_off44_inb i r)) (fun _ => rfl)).squeeze
    S128 squeezes_S1x128_S128

/-- The semaphore that row `r`'s copy signals. -/
abbrev rowSem (r : Fin 32) : DmaSem sig := (SemArray.consecutive (5 + r.val) S_ (show 5 + r.val + 1 ≤ 41 by omega) : DmaSems sig S_).sem

/-- Row `r`'s copy, started and waited for. -/
def outCopy (r : Fin 32) : Prog (TpuEff nD τ sig (Elt F) Λ₀ (.scVector (cV i) (jV i))) PUnit := do
  Prog.lift (.enqueueDma (accRow r) (.here (outRow i r)) (.dma (rowSem r)) ((View.wordExact_bits rfl).reshape _ _)
    ((View.wordExact_bits rfl).reshape _ _) ⟨Or.inl rfl, trivial⟩)
  Prog.lift (.waitDma2 (rowSem r) (accRow r) (outRow i r) ((View.wordExact_bits rfl).reshape _ _) ((View.wordExact_bits rfl).reshape _ _))

/-- Row `r`'s copy puts the accumulator's row `r` in place: `V` is any contents of the partial sums that have it there. -/
theorem outCopy_wp (r : Fin 32) (a : Vec F S32x128 .f32) (w V : Buf (Elt F) (pLoc d))
    (hV : ∀ x : S128.Idx, V ((outRow i r).view.emb x) = a ((accRow r).view.emb x))
    (O : CellTallies nD τ sig (HIx 1)) (W : Waits sig (HIx 1)) :
    iprop(Transfers.MayWaits (thr d i) (none : HIx 1) O ∗ (accM.view.loc (thr d i) ↦{fullShare} a)
        ∗ (pLoc d ↦[(outRow i r).view.set]{fullShare} w)
        ∗ semVal (thr d i, SemLoc.dma (rowSem r)) 0 ∗ owes (thr d i) O W)
      ⊢ wp frame (wpE (defs₀ (F := F)) 𝒱₀ (thr d i) none) Set.univ (outCopy i r) fun _ =>
        iprop((accM.view.loc (thr d i) ↦{fullShare} a)
        ∗ (pLoc d ↦[(outRow i r).view.set]{fullShare} V)
        ∗ semVal (thr d i, SemLoc.dma (rowSem r)) 0
        ∗ ∃ W', ⌜∀ p ∈ W', p ∈ W ∨ p.2 = none⌝ ∗ owes (thr d i) O W' : sProp 𝕄) := by
  have hw : ((outRow i r).view.loc (thr d i) ↦[(outRow i r).view.set]{fullShare}
        (outRow i r).view.writes (Elt F) w [⟨Rect.whole S128, ReadAs.same.apply ((accRow r).view.read (Elt F) a)⟩] : sProp 𝕄)
      = (pLoc d ↦[(outRow i r).view.set]{fullShare} V) := by
    refine pointsTo_congr fun j hj => ?_
    obtain ⟨x, -, hx⟩ := Finset.mem_map.mp hj
    subst hx
    rw [View.writes_cons]
    have e : ((outRow i r).view.slice (Rect.whole S128)).emb x = (outRow i r).view.emb x :=
      congrArg (outRow i r).view.emb (Rect.emb_whole_apply S128 x)
    rw [← e]
    refine (View.write_emb_of_mem _ _ (Finset.mem_univ x)).trans ?_
    rw [e]
    exact (hV x).symm
  unfold outCopy
  iintro ⟨#HmW, Ha, Hw, Hs, HO⟩
  ihave Hw := (show (pLoc d ↦[(outRow i r).view.set]{fullShare} w : sProp 𝕄)
    ⊢ ((outRow i r).view.loc (thr d i) ↦[(outRow i r).view.set]{fullShare} w) from BI.Entails.refl _) $$ Hw
  set_option sl_exec.dmaWindow true in
  sl_exec (disch := exact View.amount_pos _ _ (show 0 < S128.numel by decide))
  sl_step
  isplitl [Ha]; · iexact Ha
  isplitl [Hw]
  · unfold outCopy_wp.sl.dma0
    ihave Hw := (Entails.of_eq hw) $$ Hw
    iexact Hw
  isplitl [Hs]; · iexact Hs
  iexists _
  isplitr
  rotate_left
  · iexact HO
  · ipureintro
    intro p hp
    rcases Finset.mem_insert.mp hp with h | h
    · exact Or.inr (by rw [h]; rfl)
    · exact Or.inl h

/-- The copies of the rows in a list, one after another. -/
def outCopies (i : grid0.Coords) : List (Fin 32) → Prog (TpuEff nD τ sig (Elt F) Λ₀ (.scVector (cV i) (jV i))) PUnit
  | [] => pure ⟨⟩
  | r :: l => outCopy i r >>= fun _ => outCopies i l

/-- The copies of a list of different rows. -/
theorem outCopies_wp (a : Vec F S32x128 .f32) (w V : Buf (Elt F) (pLoc d))
    (hV : ∀ (r : Fin 32) (x : S128.Idx), V ((outRow i r).view.emb x) = a ((accRow r).view.emb x))
    (O : CellTallies nD τ sig (HIx 1)) (l : List (Fin 32)) (hl : l.Nodup) (W : Waits sig (HIx 1)) :
    iprop(Transfers.MayWaits (thr d i) (none : HIx 1) O ∗ (accM.view.loc (thr d i) ↦{fullShare} a)
        ∗ (bigSep l.toFinset fun r => pLoc d ↦[(outRow i r).view.set]{fullShare} w)
        ∗ (bigSep l.toFinset fun r => semVal (thr d i, SemLoc.dma (rowSem r)) 0) ∗ owes (thr d i) O W)
      ⊢ wp frame (wpE (defs₀ (F := F)) 𝒱₀ (thr d i) none) Set.univ (outCopies i l) fun _ =>
        iprop((accM.view.loc (thr d i) ↦{fullShare} a)
        ∗ (bigSep l.toFinset fun r => pLoc d ↦[(outRow i r).view.set]{fullShare} V)
        ∗ (bigSep l.toFinset fun r => semVal (thr d i, SemLoc.dma (rowSem r)) 0)
        ∗ ∃ W', ⌜∀ p ∈ W', p ∈ W ∨ p.2 = none⌝ ∗ owes (thr d i) O W' : sProp 𝕄) := by
  induction l generalizing W with
  | nil =>
    rw [List.toFinset_nil, bigSep_empty, bigSep_empty, bigSep_empty,
      show outCopies (F := F) i [] = Prog.ret ⟨⟩ from rfl, wp_ret]
    iintro ⟨-, Ha, Hw, Hs, HO⟩
    imodintro
    isplitl [Ha]; · iexact Ha
    isplitl [Hw]; · iexact Hw
    isplitl [Hs]; · iexact Hs
    iexists W
    isplitr; · ipureintro; exact fun p hp => Or.inl hp
    iexact HO
  | cons r l ih =>
    have hr : r ∉ l.toFinset := fun h => (List.nodup_cons.mp hl).1 (List.mem_toFinset.mp h)
    rw [List.toFinset_cons, SparseCore.bigSep_insert' hr, SparseCore.bigSep_insert' hr, SparseCore.bigSep_insert' hr]
    rw [show outCopies (F := F) i (r :: l) = outCopy i r >>= fun _ => outCopies i l from rfl, wp_bind]
    iintro ⟨#HmW, Ha, ⟨Hw, Hws⟩, ⟨Hs, Hss⟩, HO⟩
    iapply wp_wand $$ [Ha Hw Hs HO]
    · iapply (outCopy_wp d i r a w V (hV r) O W)
      isplitr; · iexact HmW
      isplitl [Ha]; · iexact Ha
      isplitl [Hw]; · iexact Hw
      isplitl [Hs]; · iexact Hs
      iexact HO
    iintro %_ ⟨Ha, Hw, Hs, %W₁, %hW₁, HO⟩
    iapply wp_wand $$ [Ha Hws Hss HO]
    · iapply (ih (List.nodup_cons.mp hl).2 W₁)
      isplitr; · iexact HmW
      isplitl [Ha]; · iexact Ha
      isplitl [Hws]; · iexact Hws
      isplitl [Hss]; · iexact Hss
      iexact HO
    iintro %_ ⟨Ha, Hws, Hss, %W₂, %hW₂, HO⟩
    isplitl [Ha]; · iexact Ha
    isplitl [Hw Hws]
    · isplitl [Hw]; · iexact Hw
      iexact Hws
    isplitl [Hs Hss]
    · isplitl [Hs]; · iexact Hs
      iexact Hss
    iexists W₂
    isplitr
    · ipureintro
      intro p hp
      rcases hW₂ p hp with h | h
      · exact hW₁ p h
      · exact Or.inr h
    iexact HO

end Out

set_option maxRecDepth 65536 in
set_option maxHeartbeats 40000000 in
/-- The printed body's last sixteen parts are the copies of the 32 rows. -/
theorem tail_eq (i : grid0.Coords) (v1 : BitVec 32) :
    (do
      k0_part3 (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part4 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part5 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part6 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part7 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part8 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part9 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part10 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part11 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part12 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part13 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part14 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      k0_part15 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      let ⟨v101, c27_i32⟩ : Σ' (v101 : BitVec 32), BitVec 32 ← k0_part16 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1
      let c32_i32_99 : BitVec 32 ← k0_part17 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1 v101 c27_i32
      k0_part18 i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1 c32_i32_99
      let v124_r31 : Memref sig .scVector .hbm S1x128 .f32 := pM.slice (Rect.unit (s := S1024x128) (k0_off44 i 30#32) S1x128.size (k0_off44_inb i 30)) (fun _ => rfl)
      let v125_r31 : Memref sig .scVector .hbm S128 .f32 := v124_r31.squeeze S128 squeezes_S1x128_S128
      let v126_r31 : Memref sig .scVector .vmem S1x128 .f32 := accM.slice (Rect.unit (s := S32x128) ![30, 0] S1x128.size inb_S32x128_S1x128_30_0) (fun _ => rfl)
      let v127_r31 : Memref sig .scVector .vmem S128 .f32 := v126_r31.squeeze S128 squeezes_S1x128_S128
      Prog.lift (.waitDma2 cc0_scoped31.sem v127_r31 v125_r31 ((View.wordExact_bits rfl).reshape _ _) ((View.wordExact_bits rfl).reshape _ _))

      let v116_r32 : Memref sig .scVector .hbm S1x128 .f32 := pM.slice (Rect.unit (s := S1024x128) (k0_off44 i 31#32) S1x128.size (k0_off44_inb i 31)) (fun _ => rfl)
      let v117_r32 : Memref sig .scVector .hbm S128 .f32 := v116_r32.squeeze S128 squeezes_S1x128_S128
      let v118_r32 : Memref sig .scVector .vmem S1x128 .f32 := accM.slice (Rect.unit (s := S32x128) ![31, 0] S1x128.size inb_S32x128_S1x128_31_0) (fun _ => rfl)
      let v119_r32 : Memref sig .scVector .vmem S128 .f32 := v118_r32.squeeze S128 squeezes_S1x128_S128
      Prog.lift (.enqueueDma v119_r32 (.here v117_r32) (.dma cc0_scoped32.sem) ((View.wordExact_bits rfl).reshape _ _) ((View.wordExact_bits rfl).reshape _ _) ⟨Or.inl rfl, trivial⟩)

      let v124_r32 : Memref sig .scVector .hbm S1x128 .f32 := pM.slice (Rect.unit (s := S1024x128) (k0_off44 i 31#32) S1x128.size (k0_off44_inb i 31)) (fun _ => rfl)
      let v125_r32 : Memref sig .scVector .hbm S128 .f32 := v124_r32.squeeze S128 squeezes_S1x128_S128
      let v126_r32 : Memref sig .scVector .vmem S1x128 .f32 := accM.slice (Rect.unit (s := S32x128) ![31, 0] S1x128.size inb_S32x128_S1x128_31_0) (fun _ => rfl)
      let v127_r32 : Memref sig .scVector .vmem S128 .f32 := v126_r32.squeeze S128 squeezes_S1x128_S128
      Prog.lift (.waitDma2 cc0_scoped32.sem v127_r32 v125_r32 ((View.wordExact_bits rfl).reshape _ _) ((View.wordExact_bits rfl).reshape _ _))

      pure ⟨⟩
      : Prog (TpuEff nD τ sig (Elt F) Λ₀ (.scVector (cV i) (jV i))) PUnit) = outCopies i (List.finRange 32) := rfl

end Cert.Proof

end
-- ==== Proof.Tile.lean ====
/-
  A tile's whole body: it fetches its 512 rows in four blocks and their labels, zeroes its accumulator, adds every row
  to the accumulator's row of its label, and copies the accumulator out.
-/
module

public import proofs.«01_k».proof.Proof.Out

@[expose] public section

noncomputable section

namespace Cert.Proof

open Cert.KernelIdeal Cert.KernelIdeal.Gen Cert.Proof.Accum

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

/-! ## The body, written with the trips' programs -/

section Prog

variable (i : grid0.Coords)

/-- The `r`-th of the four blocks of the features that a tile fetches, and the tile's labels. -/
abbrev fBlk (r : Fin 4) : Memref sig .scVector .hbm S128x128 .f32 :=
  fM.slice (Rect.unit (s := S16384x128) (k0_off1 i (BitVec.ofNat 32 (128 * r.val))) S128x128.size (k0_off1_inb i r)) (fun _ => rfl)
abbrev lBlk : Memref sig .scVector .hbm S512 .i32 :=
  lM.slice (Rect.unit (s := S16384) (k0_off2 i) S512.size (k0_off2_inb i)) (fun _ => rfl)

/-- A later spelling of the same block: only its size is read, by the wait. -/
abbrev fBlk' (r : Fin 3) : Memref sig .scVector .hbm S128x128 .f32 :=
  fM.slice (Rect.unit (s := S16384x128) (k0_off19 i (BitVec.ofNat 32 (128 + 128 * r.val))) S128x128.size (k0_off19_inb i r)) (fun _ => rfl)

/-- The fetches' starts, the labels' wait and the zero loop. -/
def headProg : Prog (TpuEff nD τ sig (Elt F) Λ₀ (.scVector (cV i) (jV i))) Unit := do
  Prog.lift (.enqueueDma (fBlk i 0) (.here b0M) (.dma cc0_scratch6.sem) (View.wordExact_bits rfl) (Memref.isWhole_whole _).wordExact ⟨Or.inl rfl, trivial⟩)
  Prog.lift (.enqueueDma (fBlk i 1) (.here b1M) (.dma cc0_scratch7.sem) (View.wordExact_bits rfl) (Memref.isWhole_whole _).wordExact ⟨Or.inl rfl, trivial⟩)
  Prog.lift (.enqueueDma (fBlk i 2) (.here b2M) (.dma cc0_scratch8.sem) (View.wordExact_bits rfl) (Memref.isWhole_whole _).wordExact ⟨Or.inl rfl, trivial⟩)
  Prog.lift (.enqueueDma (fBlk i 3) (.here b3M) (.dma cc0_scratch9.sem) (View.wordExact_bits rfl) (Memref.isWhole_whole _).wordExact ⟨Or.inl rfl, trivial⟩)
  Prog.lift (.enqueueDma (lBlk i) (.here labM) (.dma cc0_scoped0.sem) (View.wordExact_bits rfl) (Memref.isWhole_whole _).wordExact ⟨Or.inl rfl, trivial⟩)
  Prog.lift (.waitDma2 cc0_scoped0.sem (lBlk i) labM (View.wordExact_bits rfl) (Memref.isWhole_whole _).wordExact)
  Scf.Loop.for k0_t1_loop k0_t1_ok ⟨⟩ (fun k _ => zeroTrip i k)

/-- The column numbers of a trip's last five stores. -/
abbrev col3 : IVec S16 32 := k0_pay5 (iota .scVector S16 32 [0] iota_S16_d0_w32_scVector) 48#32
abbrev col4 : IVec S16 32 := k0_pay6 (iota .scVector S16 32 [0] iota_S16_d0_w32_scVector)
abbrev col5 : IVec S16 32 := k0_pay7 (iota .scVector S16 32 [0] iota_S16_d0_w32_scVector)
abbrev col6 : IVec S16 32 := k0_pay8 (iota .scVector S16 32 [0] iota_S16_d0_w32_scVector)
abbrev col7 : IVec S16 32 := k0_pay9 (iota .scVector S16 32 [0] iota_S16_d0_w32_scVector)

/-- The four blocks' waits and row loops. -/
def rowsProg : Prog (TpuEff nD τ sig (Elt F) Λ₀ (.scVector (cV i) (jV i))) PUnit := do
  Prog.lift (.waitDma2 cc0_scratch6.sem (fBlk i 0) b0M (View.wordExact_bits rfl) (Memref.isWhole_whole _).wordExact)
  Scf.Loop.for k0_t2_loop k0_t2_ok ⟨⟩ (fun k _ => rowTrip i b0M (k0_pay11 k) k k0_pay2 k0_pay3 k0_pay4 col3 col4 col5 col6 col7)
  Prog.lift (.waitDma2 cc0_scratch7.sem (fBlk' i 0) b1M (View.wordExact_bits rfl) (Memref.isWhole_whole _).wordExact)
  Scf.Loop.for k0_t2_loop k0_t2_ok ⟨⟩ (fun k _ => rowTrip i b1M (k0_pay20 k) k k0_pay2 k0_pay3 k0_pay4 col3 col4 col5 col6 col7)
  Prog.lift (.waitDma2 cc0_scratch8.sem (fBlk' i 1) b2M (View.wordExact_bits rfl) (Memref.isWhole_whole _).wordExact)
  Scf.Loop.for k0_t2_loop k0_t2_ok ⟨⟩ (fun k _ => rowTrip i b2M (k0_pay29 k) k k0_pay2 k0_pay3 k0_pay4 col3 col4 col5 col6 col7)
  Prog.lift (.waitDma2 cc0_scratch9.sem (fBlk' i 2) b3M (View.wordExact_bits rfl) (Memref.isWhole_whole _).wordExact)
  Scf.Loop.for k0_t2_loop k0_t2_ok ⟨⟩ (fun k _ => rowTrip i b3M (k0_pay38 k) k k0_pay2 k0_pay3 k0_pay4 col3 col4 col5 col6 col7)
  pure ⟨⟩

/-- The body in full. -/
def tileProg : Prog (TpuEff nD τ sig (Elt F) Λ₀ (.scVector (cV i) (jV i))) PUnit :=
  headProg i >>= fun _ => rowsProg i >>= fun _ => outCopies i (List.finRange 32)

end Prog

set_option maxRecDepth 65536 in
set_option maxHeartbeats 40000000 in
theorem head_eq (i : grid0.Coords) :
    k0_part1 (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32
      = headProg i >>= fun _ => pure ⟨Scalar.addi (Scalar.muli (BitVec.ofNat 32 (i 1).val) 2#32) (BitVec.ofNat 32 (i 0).val),
          iota .scVector S16 32 [0] iota_S16_d0_w32_scVector, k0_pay2, k0_pay3, k0_pay4, 48#32⟩ := rfl

set_option maxRecDepth 65536 in
set_option maxHeartbeats 40000000 in
theorem rows_eq (i : grid0.Coords) :
    k0_part2 (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 (iota .scVector S16 32 [0] iota_S16_d0_w32_scVector) k0_pay2 k0_pay3 k0_pay4 48#32 = rowsProg i := rfl

set_option maxRecDepth 65536 in
set_option maxHeartbeats 40000000 in
/-- The printed body is the one above. -/
theorem body_eq (i : grid0.Coords) : cc0__seg_body (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 = tileProg i := by
  show (k0_part1 (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32
    >>= fun r => k0_part2 (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 r.2.1 r.2.2.1 r.2.2.2.1 r.2.2.2.2.1 r.2.2.2.2.2
    >>= fun _ => outCopies i (List.finRange 32)) = _
  rw [head_eq, Prog.bind_assoc]
  show (headProg i >>= fun _ => k0_part2 (F := F) i fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 (iota .scVector S16 32 [0] iota_S16_d0_w32_scVector) k0_pay2 k0_pay3 k0_pay4 48#32
    >>= fun _ => outCopies i (List.finRange 32)) = _
  rw [rows_eq]
  rfl

/-! ## The lanes' numbers -/

/-- A lane's number at any index, from its number at each lane. -/
theorem col_of (u : IVec S16 32) (n : ℕ) (h : ∀ j : Fin 16, (u (ix1 j)).toNat = n + j.val) (y : S16.Idx) :
    (u y).toNat = n + (y 0).val :=
  (congrArg (fun z => (u z).toNat) (eq_ix1 y)).trans (h (y 0))

/-- The columns that the eight stores of a trip name: the first sixteen, and so on. -/
theorem col0_toNat : ∀ j : Fin 16, (k0_pay2 (ix1 j)).toNat = 0 + j.val := by decide +kernel
theorem col1_toNat : ∀ j : Fin 16, (k0_pay3 (ix1 j)).toNat = 16 + j.val := by decide +kernel
theorem col2_toNat : ∀ j : Fin 16, (k0_pay4 (ix1 j)).toNat = 32 + j.val := by decide +kernel
theorem col3_toNat : ∀ j : Fin 16, (col3 (ix1 j)).toNat = 48 + j.val := by decide +kernel
theorem col4_toNat : ∀ j : Fin 16, (col4 (ix1 j)).toNat = 64 + j.val := by decide +kernel
theorem col5_toNat : ∀ j : Fin 16, (col5 (ix1 j)).toNat = 80 + j.val := by decide +kernel
theorem col6_toNat : ∀ j : Fin 16, (col6 (ix1 j)).toNat = 96 + j.val := by decide +kernel
theorem col7_toNat : ∀ j : Fin 16, (col7 (ix1 j)).toNat = 112 + j.val := by decide +kernel

/-- The rows that the trips name: those of the first block, and so on. -/
theorem row0_toNat (k : Fin k0_t2_loop.trips) (y : S16.Idx) : (k0_pay11 k y).toNat = 0 + k.val := by
  rw [show k0_pay11 k y = k0_pay11 k (ix1 (0 : Fin 16)) from rfl]; revert k; decide +kernel
theorem row1_toNat (k : Fin k0_t2_loop.trips) (y : S16.Idx) : (k0_pay20 k y).toNat = 128 + k.val := by
  rw [show k0_pay20 k y = k0_pay20 k (ix1 (0 : Fin 16)) from rfl]; revert k; decide +kernel
theorem row2_toNat (k : Fin k0_t2_loop.trips) (y : S16.Idx) : (k0_pay29 k y).toNat = 256 + k.val := by
  rw [show k0_pay29 k y = k0_pay29 k (ix1 (0 : Fin 16)) from rfl]; revert k; decide +kernel
theorem row3_toNat (k : Fin k0_t2_loop.trips) (y : S16.Idx) : (k0_pay38 k y).toNat = 384 + k.val := by
  rw [show k0_pay38 k y = k0_pay38 k (ix1 (0 : Fin 16)) from rfl]; revert k; decide +kernel

/-! ## What the accumulator ends with -/

section Value

variable (m : (ℓ : Loc nD τ sig) → Buf (Elt F) ℓ) (d : Dev nD) (i : grid0.Coords)

/-- Row `n` of the features, and its label. -/
def rowFeat (n : ℕ) : Fin 128 → F .f32 := fun c => m (fLoc d) (ix2 (Fin.ofNat 16384 n) c)
def rowLab (n : ℕ) : ℕ := (m (lLoc d) (ix1 (Fin.ofNat 16384 n)) : BitVec 32).toNat

/-- The tile's first row. -/
def base : ℕ := 1024 * (i 1).val + 512 * (i 0).val

/-- The accumulator after the first rows of a subcore's share. -/
abbrev accUpTo (n : ℕ) : Vec F S32x128 .f32 :=
  rowsAdd (fun k => rowLab m d (base i + k)) (fun k => rowFeat m d (base i + k)) (fun _ => zf) n

/-- A subcore's accumulator after its 512 rows. -/
abbrev tileAcc : Vec F S32x128 .f32 := accUpTo m d i 512

/-- The labels and a block as fetched. -/
abbrev labV : Vec F S512 .i32 := (lBlk i).view.read (Elt F) (m (lLoc d))
abbrev blkV (r : Fin 4) : Vec F S128x128 .f32 := (fBlk i r).view.read (Elt F) (m (fLoc d))

/-- A tile's rows are inside the array. -/
theorem base_le : base i + 512 ≤ 16384 := by
  have h0 : (i 0).val < 2 := (i 0).isLt
  have h1 : (i 1).val < 16 := (i 1).isLt
  unfold base; omega

/-- A fetched label is the row's label. -/
theorem labV_apply (n : ℕ) (hn : n < 512) : tileLab (labV m d i) n = rowLab m d (base i + n) := by
  have hb := base_le i
  show ((m (lLoc d)) ((lBlk i).view.emb _) : BitVec 32).toNat = (m (lLoc d) _ : BitVec 32).toNat
  refine congrArg (fun x => (m (lLoc d) x : BitVec 32).toNat) ?_
  funext a
  match a with
  | 0 =>
    refine Fin.ext ?_
    show k0_off2 i 0 + 1 * (n % 512) = (base i + n) % 16384
    rw [k0_off2_eq, Nat.mod_eq_of_lt hn, Nat.mod_eq_of_lt (by omega)]
    show 1024 * (i 1).val + 512 * (i 0).val + 1 * n = base i + n
    unfold base; omega

/-- A fetched row is the row of the features. -/
theorem blkV_apply (b : Memref sig .scVector .vmem S128x128 .f32) (x : Buf (Elt F) (b.view.loc (thr d i))) (r : Fin 4)
    (hx : b.view.read (Elt F) x = blkV m d i r) (n : ℕ) (hn : n < 128) :
    tileRow d i b x n = rowFeat m d (base i + (128 * r.val + n)) := by
  have hb := base_le i
  have hr := r.isLt
  funext c
  show b.view.read (Elt F) x _ = _
  rw [hx]
  show (m (fLoc d)) ((fBlk i r).view.emb _) = m (fLoc d) _
  refine congrArg (m (fLoc d)) ?_
  funext a
  match a with
  | 0 =>
    refine Fin.ext ?_
    show k0_off1 i (BitVec.ofNat 32 (128 * r.val)) 0 + 1 * (n % 128) = (base i + (128 * r.val + n)) % 16384
    rw [k0_off1_eq, Nat.mod_eq_of_lt hn, Nat.mod_eq_of_lt (by omega)]
    show 1024 * (i 1).val + 512 * (i 0).val + 128 * r.val + 1 * n = _
    unfold base; omega
  | 1 =>
    refine Fin.ext ?_
    show k0_off1 i (BitVec.ofNat 32 (128 * r.val)) 1 + 1 * c.val = c.val
    rw [k0_off1_eq]
    show 0 + 1 * c.val = c.val
    omega

/-- One block's rows after the blocks before it. -/
theorem block_step (b : Memref sig .scVector .vmem S128x128 .f32) (x : Buf (Elt F) (b.view.loc (thr d i))) (r : Fin 4)
    (hx : b.view.read (Elt F) x = blkV m d i r) (n n' : ℕ) (hn : n = 128 * r.val) (hn' : n' = n + 128) :
    rowsAdd (fun k => tileLab (labV m d i) (n + k)) (tileRow d i b x) (accUpTo m d i n) 128 = accUpTo m d i n' := by
  subst hn' hn
  have hr := r.isLt
  refine Eq.trans ?_ (rowsAdd_add _ _ _ _ _).symm
  refine rowsAdd_congr _ _ _ _ _ _ (fun k hk => ?_) (fun k hk => ?_)
  · exact labV_apply m d i (128 * r.val + k) (by omega)
  · exact blkV_apply m d i b x r hx k hk

/-! ## The run -/

set_option maxHeartbeats 1000000 in
/-- The body's run from its pieces: the blocks and labels it reads, its rows of the partial sums, its scratches and its
    semaphores. The rows of the partial sums end at the accumulator's. -/
theorem tileProg_wp (hlab : ∀ j : S16384.Idx, (m (lLoc d) j : BitVec 32).toNat < 26)
    (w V : Buf (Elt F) (pLoc d))
    (hV : ∀ (r : Fin 32) (x : S128.Idx), V ((outRow i r).view.emb x) = tileAcc m d i ((accRow r).view.emb x))
    (O : CellTallies nD τ sig (HIx 1)) (W : Waits sig (HIx 1))
    (x0 x1 x2 x3 : Vec F S128x128 .f32) (xl : Vec F S512 .i32) (xa : Vec F S32x128 .f32) :
    iprop(Transfers.MayWaits (thr d i) (none : HIx 1) O
        ∗ ((fBlk i 0).view.loc (thr d i) ↦[(fBlk i 0).view.set]{fullShare} m (fLoc d))
        ∗ ((fBlk i 1).view.loc (thr d i) ↦[(fBlk i 1).view.set]{fullShare} m (fLoc d))
        ∗ ((fBlk i 2).view.loc (thr d i) ↦[(fBlk i 2).view.set]{fullShare} m (fLoc d))
        ∗ ((fBlk i 3).view.loc (thr d i) ↦[(fBlk i 3).view.set]{fullShare} m (fLoc d))
        ∗ ((lBlk i).view.loc (thr d i) ↦[(lBlk i).view.set]{fullShare} m (lLoc d))
        ∗ (bigSep Finset.univ fun r => pLoc d ↦[(outRow i r).view.set]{fullShare} w)
        ∗ (b0M.view.loc (thr d i) ↦{fullShare} x0) ∗ (b1M.view.loc (thr d i) ↦{fullShare} x1)
        ∗ (b2M.view.loc (thr d i) ↦{fullShare} x2) ∗ (b3M.view.loc (thr d i) ↦{fullShare} x3)
        ∗ (labM.view.loc (thr d i) ↦{fullShare} xl) ∗ (accM.view.loc (thr d i) ↦{fullShare} xa)
        ∗ semVal (thr d i, SemLoc.dma cc0_scratch6.sem) 0 ∗ semVal (thr d i, SemLoc.dma cc0_scratch7.sem) 0
        ∗ semVal (thr d i, SemLoc.dma cc0_scratch8.sem) 0 ∗ semVal (thr d i, SemLoc.dma cc0_scratch9.sem) 0
        ∗ semVal (thr d i, SemLoc.dma cc0_scoped0.sem) 0
        ∗ (bigSep Finset.univ fun r => semVal (thr d i, SemLoc.dma (rowSem r)) 0) ∗ owes (thr d i) O W)
      ⊢ wp frame (wpE (defs₀ (F := F)) 𝒱₀ (thr d i) none) Set.univ (tileProg i) fun _ =>
        iprop(((fBlk i 0).view.loc (thr d i) ↦[(fBlk i 0).view.set]{fullShare} m (fLoc d))
        ∗ ((fBlk i 1).view.loc (thr d i) ↦[(fBlk i 1).view.set]{fullShare} m (fLoc d))
        ∗ ((fBlk i 2).view.loc (thr d i) ↦[(fBlk i 2).view.set]{fullShare} m (fLoc d))
        ∗ ((fBlk i 3).view.loc (thr d i) ↦[(fBlk i 3).view.set]{fullShare} m (fLoc d))
        ∗ ((lBlk i).view.loc (thr d i) ↦[(lBlk i).view.set]{fullShare} m (lLoc d))
        ∗ (bigSep Finset.univ fun r => pLoc d ↦[(outRow i r).view.set]{fullShare} V)
        ∗ (∃ x, b0M.view.loc (thr d i) ↦{fullShare} x) ∗ (∃ x, b1M.view.loc (thr d i) ↦{fullShare} x)
        ∗ (∃ x, b2M.view.loc (thr d i) ↦{fullShare} x) ∗ (∃ x, b3M.view.loc (thr d i) ↦{fullShare} x)
        ∗ (∃ x, labM.view.loc (thr d i) ↦{fullShare} x) ∗ (∃ x, accM.view.loc (thr d i) ↦{fullShare} x)
        ∗ semVal (thr d i, SemLoc.dma cc0_scratch6.sem) 0 ∗ semVal (thr d i, SemLoc.dma cc0_scratch7.sem) 0
        ∗ semVal (thr d i, SemLoc.dma cc0_scratch8.sem) 0 ∗ semVal (thr d i, SemLoc.dma cc0_scratch9.sem) 0
        ∗ semVal (thr d i, SemLoc.dma cc0_scoped0.sem) 0
        ∗ (bigSep Finset.univ fun r => semVal (thr d i, SemLoc.dma (rowSem r)) 0)
        ∗ ∃ W', ⌜∀ p ∈ W', p ∈ W ∨ p.2 = none⌝ ∗ owes (thr d i) O W' : sProp 𝕄) := by
  have hlab' : ∀ j, (labV m d i j : BitVec 32).toNat < 26 := fun j => hlab _
  have c0 := col_of k0_pay2 0 col0_toNat
  have c1 := col_of k0_pay3 16 col1_toNat
  have c2 := col_of k0_pay4 32 col2_toNat
  have c3 := col_of col3 48 col3_toNat
  have c4 := col_of col4 64 col4_toNat
  have c5 := col_of col5 80 col5_toNat
  have c6 := col_of col6 96 col6_toNat
  have c7 := col_of col7 112 col7_toNat
  have hacc : ∀ a b : Vec F S32x128 .f32, a = b → ((accM.view.loc (thr d i) ↦{fullShare} a : sProp 𝕄) ⊢ (accM.view.loc (thr d i) ↦{fullShare} b)) :=
    fun a b h => Entails.of_eq (by rw [h])
  have hfin : (List.finRange 32).toFinset = (Finset.univ : Finset (Fin 32)) := by ext; simp
  unfold tileProg headProg rowsProg
  iintro ⟨#HmW, Hf0, Hf1, Hf2, Hf3, Hl, Hp, Hb0, Hb1, Hb2, Hb3, Hlab, Hacc, Hs0, Hs1, Hs2, Hs3, Hs4, Hsr, HO⟩
  sl_exec (disch := exact View.amount_pos _ _ (show 0 < S128x128.numel by decide))
  iapply (zeroLoop_wp d i xa)
  isplitl [Hacc]; · iexact Hacc
  iintro Hacc
  ihave Hlab := (show (labM.view.loc (thr d i) ↦{fullShare} View.write (Elt F) labM.view xl (tileProg_wp.sl.dma0_4 m d i) Finset.univ : sProp 𝕄)
    ⊢ (labM.view.loc (thr d i) ↦{fullShare} labV m d i) from Entails.of_eq (by
      unfold tileProg_wp.sl.dma0_4
      exact congrArg (fun x => (labM.view.loc (thr d i) ↦{fullShare} x : sProp 𝕄)) (View.write_whole_univ cc0_scratch4 xl _))) $$ Hlab
  sl_exec
  rw [Prog.bind_assoc]
  iapply (rowLoop_wp d i b0M 0 (by omega) _ row0_toNat _ _ _ _ _ _ _ _ c0 c1 c2 c3 c4 c5 c6 c7 (labV m d i) hlab' (accUpTo m d i 0) (View.write (Elt F) b0M.view x0 (tileProg_wp.sl.dma0 m d i) Finset.univ))
  isplitl [Hlab]; · iexact Hlab
  isplitl [Hacc]; · iexact Hacc
  isplitl [Hb0]; · iexact Hb0
  iintro ⟨Hlab, Hacc, Hb0⟩
  ihave Hacc := (hacc _ _ (block_step m d i b0M (View.write (Elt F) b0M.view x0 (tileProg_wp.sl.dma0 m d i) Finset.univ) 0 (by unfold tileProg_wp.sl.dma0; exact View.read_write_univ _ _) 0 128 rfl rfl)) $$ Hacc
  sl_exec
  rw [Prog.bind_assoc]
  iapply (rowLoop_wp d i b1M 128 (by omega) _ row1_toNat _ _ _ _ _ _ _ _ c0 c1 c2 c3 c4 c5 c6 c7 (labV m d i) hlab' (accUpTo m d i 128) (View.write (Elt F) b1M.view x1 (tileProg_wp.sl.dma0_1 m d i) Finset.univ))
  isplitl [Hlab]; · iexact Hlab
  isplitl [Hacc]; · iexact Hacc
  isplitl [Hb1]; · iexact Hb1
  iintro ⟨Hlab, Hacc, Hb1⟩
  ihave Hacc := (hacc _ _ (block_step m d i b1M (View.write (Elt F) b1M.view x1 (tileProg_wp.sl.dma0_1 m d i) Finset.univ) 1 (by unfold tileProg_wp.sl.dma0_1; exact View.read_write_univ _ _) 128 256 rfl rfl)) $$ Hacc
  sl_exec
  rw [Prog.bind_assoc]
  iapply (rowLoop_wp d i b2M 256 (by omega) _ row2_toNat _ _ _ _ _ _ _ _ c0 c1 c2 c3 c4 c5 c6 c7 (labV m d i) hlab' (accUpTo m d i 256) (View.write (Elt F) b2M.view x2 (tileProg_wp.sl.dma0_2 m d i) Finset.univ))
  isplitl [Hlab]; · iexact Hlab
  isplitl [Hacc]; · iexact Hacc
  isplitl [Hb2]; · iexact Hb2
  iintro ⟨Hlab, Hacc, Hb2⟩
  ihave Hacc := (hacc _ _ (block_step m d i b2M (View.write (Elt F) b2M.view x2 (tileProg_wp.sl.dma0_2 m d i) Finset.univ) 2 (by unfold tileProg_wp.sl.dma0_2; exact View.read_write_univ _ _) 256 384 rfl rfl)) $$ Hacc
  sl_exec
  rw [Prog.bind_assoc]
  iapply (rowLoop_wp d i b3M 384 (by omega) _ row3_toNat _ _ _ _ _ _ _ _ c0 c1 c2 c3 c4 c5 c6 c7 (labV m d i) hlab' (accUpTo m d i 384) (View.write (Elt F) b3M.view x3 (tileProg_wp.sl.dma0_3 m d i) Finset.univ))
  isplitl [Hlab]; · iexact Hlab
  isplitl [Hacc]; · iexact Hacc
  isplitl [Hb3]; · iexact Hb3
  iintro ⟨Hlab, Hacc, Hb3⟩
  ihave Hacc := (hacc _ _ (block_step m d i b3M (View.write (Elt F) b3M.view x3 (tileProg_wp.sl.dma0_3 m d i) Finset.univ) 3 (by unfold tileProg_wp.sl.dma0_3; exact View.read_write_univ _ _) 384 512 rfl rfl)) $$ Hacc
  rw [Prog.pure_eq_ret, Prog.bind_ret]
  have hW : ∀ p ∈ insert (SemLoc.dma cc0_scratch9.sem, (default : HIx 1)) (insert (SemLoc.dma cc0_scratch8.sem, (default : HIx 1))
      (insert (SemLoc.dma cc0_scratch7.sem, (default : HIx 1)) (insert (SemLoc.dma cc0_scratch6.sem, (default : HIx 1))
        (insert (SemLoc.dma cc0_scoped0.sem, (default : HIx 1)) W)))), p ∈ W ∨ p.2 = none := by
    intro p hp
    simp only [Finset.mem_insert] at hp
    rcases hp with h | h | h | h | h | h
    iterate 5 exact Or.inr (by rw [h]; rfl)
    exact Or.inl h
  iapply wp_wand $$ [Hacc Hp Hsr HO]
  · iapply (outCopies_wp d i (tileAcc m d i) w V hV O (List.finRange 32) (List.nodup_finRange 32))
    rw [hfin]
    isplitr; · iexact HmW
    isplitl [Hacc]; · iexact Hacc
    isplitl [Hp]; · iexact Hp
    isplitl [Hsr]; · iexact Hsr
    iexact HO
  rw [hfin]
  iintro %_ ⟨Hacc, Hp, Hsr, %W₁, %hW₁, HO⟩
  isplitl [Hf0]; · iexact Hf0
  isplitl [Hf1]; · iexact Hf1
  isplitl [Hf2]; · iexact Hf2
  isplitl [Hf3]; · iexact Hf3
  isplitl [Hl]; · iexact Hl
  isplitl [Hp]; · iexact Hp
  isplitl [Hb0]; · iexists _; iexact Hb0
  isplitl [Hb1]; · iexists _; iexact Hb1
  isplitl [Hb2]; · iexists _; iexact Hb2
  isplitl [Hb3]; · iexists _; iexact Hb3
  isplitl [Hlab]; · iexists _; iexact Hlab
  isplitl [Hacc]; · iexists _; iexact Hacc
  isplitl [Hs0]; · iexact Hs0
  isplitl [Hs1]; · iexact Hs1
  isplitl [Hs2]; · iexact Hs2
  isplitl [Hs3]; · iexact Hs3
  isplitl [Hs4]; · iexact Hs4
  isplitl [Hsr]; · iexact Hsr
  iexists W₁
  isplitr
  · ipureintro
    intro p hp
    rcases hW₁ p hp with h | h
    · exact hW p h
    · exact Or.inr h
  iexact HO

end Value

end Cert.Proof

end
-- ==== Proof.Rows.lean ====
/-
  Which rows of which array a tile holds: the tiles' blocks of the features, their labels and their rows of the partial
  sums, each a share of the whole array, disjoint and together everything.
-/
module

public import proofs.«01_k».proof.Proof.Tile
public import Idealize.ShloMosaic.Lib.ValueLayout

@[expose] public section

noncomputable section

namespace Cert.Proof

open Cert.KernelIdeal Cert.KernelIdeal.Gen Cert.Proof.Accum

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} [FloatOps F]

local notation "𝕄" => MT nD τ sig (HIx 1) (Elt F) ℕ UU ℕ

/-- The coordinates of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- Coordinates are made of their two parts. -/
theorem coordsV_eta (i : grid0.Coords) : coordsV (i 0) (i 1) = i := funext fun a => by
  match a with
  | 0 => rfl
  | 1 => rfl

/-! ## A row as a tile names it: a slice of one row, squeezed -/

/-- A squeezed row's entry is that of the row. -/
theorem squeeze_row (x : S128.Idx) (h : S128.numel = S1x128.numel) :
    Shape.reshapeEquiv h x = (ix2 (0 : Fin 1) (x 0) : S1x128.Idx) := by
  refine Shape.reshapeEquiv_eq_of_rowMajor h ?_
  rw [Shape.rowMajor_val_two, Shape.rowMajor_val_one]
  show 0 * 128 + (x 0).val = (x 0).val
  omega

variable (i : grid0.Coords)

/-- Where an entry of a tile's row of the partial sums lies in their array. -/
theorem outRow_emb (r : Fin 32) (x : S128.Idx) :
    (outRow i r).view.emb x = (ix2 ⟨64 * (i 1).val + 32 * (i 0).val + r.val, by
      have h0 : (i 0).val < 2 := (i 0).isLt
      have h1 : (i 1).val < 16 := (i 1).isLt
      omega⟩ (x 0) : S1024x128.Idx) := by
  show (pM.slice (Rect.unit (s := S1024x128) (k0_off44 i (BitVec.ofNat 32 r.val)) S1x128.size (k0_off44_inb i r)) (fun _ => rfl)).view.emb (Shape.reshapeEquiv _ x) = _
  rw [squeeze_row]
  funext a
  match a with
  | 0 =>
    refine Fin.ext ?_
    exact congrFun (k0_off44_eq i r) 0
  | 1 =>
    refine Fin.ext ?_
    have h : k0_off44 i (BitVec.ofNat 32 r.val) 1 = 0 := congrFun (k0_off44_eq i r) 1
    show k0_off44 i (BitVec.ofNat 32 r.val) 1 + 1 * (x 0).val = (x 0).val
    omega

/-- Where an entry of a row lies in the accumulator. -/
theorem accRow_emb (r : Fin 32) (x : S128.Idx) : (accRow r).view.emb x = (ix2 r (x 0) : S32x128.Idx) := by
  show (accM.slice (Rect.unit (s := S32x128) ![r.val, 0] S1x128.size (accRow_inb r)) (fun _ => rfl)).view.emb (Shape.reshapeEquiv _ x) = _
  rw [squeeze_row]
  funext a
  match a with
  | 0 =>
    refine Fin.ext ?_
    show r.val + 1 * 0 = r.val
    omega
  | 1 =>
    refine Fin.ext ?_
    show 0 + 1 * (x 0).val = (x 0).val
    omega

/-! ## The partial sums' array once the tiles are done -/

variable (m : (ℓ : Loc nD τ sig) → Buf (Elt F) ℓ) (d : Dev nD)

/-- The tile whose rows of the partial sums hold row `n`. -/
def tileOf (n : Fin 1024) : grid0.Coords := coordsV ⟨n.val / 32 % 2, Nat.mod_lt _ (by decide)⟩ ⟨n.val / 64, by
  have := n.isLt
  show n.val / 64 < 16
  omega⟩

/-- The partial sums: row `32 w + k` is row `k` of the accumulator of the `w`-th tile. -/
def partV : Buf (Elt F) (pLoc d) := fun (j : S1024x128.Idx) =>
  tileAcc m d (tileOf (j 0)) (ix2 ⟨(j 0).val % 32, Nat.mod_lt _ (by decide)⟩ (j 1) : S32x128.Idx)

/-- A tile's row of the partial sums is the row of its accumulator. -/
theorem partV_row (r : Fin 32) (x : S128.Idx) :
    partV m d ((outRow i r).view.emb x) = tileAcc m d i ((accRow r).view.emb x) := by
  have h0 : (i 0).val < 2 := (i 0).isLt
  have h1 : (i 1).val < 16 := (i 1).isLt
  have hr := r.isLt
  rw [outRow_emb, accRow_emb]
  unfold partV
  have ht : tileOf ⟨64 * (i 1).val + 32 * (i 0).val + r.val, by omega⟩ = i := by
    refine (congrArg₂ coordsV (Fin.ext ?_) (Fin.ext ?_)).trans (coordsV_eta i)
    · show (64 * (i 1).val + 32 * (i 0).val + r.val) / 32 % 2 = (i 0).val
      omega
    · show (64 * (i 1).val + 32 * (i 0).val + r.val) / 64 = (i 1).val
      omega
  have hk : (⟨(64 * (i 1).val + 32 * (i 0).val + r.val) % 32, Nat.mod_lt _ (by decide)⟩ : Fin 32) = r := Fin.ext (by
    show (64 * (i 1).val + 32 * (i 0).val + r.val) % 32 = r.val
    omega)
  show tileAcc m d (tileOf ⟨64 * (i 1).val + 32 * (i 0).val + r.val, _⟩) (ix2 ⟨(64 * (i 1).val + 32 * (i 0).val + r.val) % 32, _⟩ (x 0)) = _
  rw [ht, hk]

/-! ## The shares of the tiles are the whole arrays -/

omit [FloatOps F] in
/-- An array is its shares, if each of its entries is in the share of exactly its owner. -/
theorem whole_split {ι : Type} [Fintype ι] [DecidableEq ι] {ℓ : Loc nD τ sig} (own : ℓ.2.ty.Idx → ι) (A : ι → Finset ℓ.2.ty.Idx)
    (h : ∀ t j, j ∈ A t ↔ own j = t) (f : Buf (Elt F) ℓ) :
    (ℓ ↦{fullShare} f : sProp 𝕄) = bigSep Finset.univ fun t => ℓ ↦[A t]{fullShare} f := by
  rw [← pointsTo_biUnion Finset.univ (ℓ := ℓ) A fun a _ b _ hab =>
    Finset.disjoint_left.mpr fun j ha hb => hab (((h a j).mp ha).symm.trans ((h b j).mp hb))]
  rw [show Finset.univ.biUnion A = Finset.univ from
    Finset.eq_univ_iff_forall.mpr fun j => Finset.mem_biUnion.mpr ⟨own j, Finset.mem_univ _, (h _ j).mpr rfl⟩]

/-- Which rows of the features are in a tile's block. -/
theorem mem_fBlk (i : grid0.Coords) (r : Fin 4) (j : S16384x128.Idx) :
    j ∈ (fBlk i r).view.set ↔ (j 0).val / 512 % 2 = (i 0).val ∧ (j 0).val / 1024 = (i 1).val ∧ (j 0).val / 128 % 4 = r.val := by
  have h0 : (i 0).val < 2 := (i 0).isLt
  have h1 : (i 1).val < 16 := (i 1).isLt
  have hr := r.isLt
  have e0 : k0_off1 i (BitVec.ofNat 32 (128 * r.val)) 0 = 1024 * (i 1).val + 512 * (i 0).val + 128 * r.val := congrFun (k0_off1_eq i r) 0
  have e1 : k0_off1 i (BitVec.ofNat 32 (128 * r.val)) 1 = 0 := congrFun (k0_off1_eq i r) 1
  constructor
  · intro hj
    obtain ⟨x, -, rfl⟩ := Finset.mem_map.mp hj
    have hx : (x 0).val < 128 := (x 0).isLt
    have e : ((fBlk i r).view.emb x 0).val = k0_off1 i (BitVec.ofNat 32 (128 * r.val)) 0 + 1 * (x 0).val := rfl
    rw [e]
    omega
  · rintro ⟨h2, h3, h4⟩
    have hlt : (j 0).val - (1024 * (i 1).val + 512 * (i 0).val + 128 * r.val) < 128 := by omega
    refine Finset.mem_map.mpr ⟨(ix2 ⟨_, hlt⟩ (j 1) : S128x128.Idx), Finset.mem_univ _, funext fun a => ?_⟩
    match a with
    | 0 =>
      refine Fin.ext ?_
      show k0_off1 i (BitVec.ofNat 32 (128 * r.val)) 0 + 1 * ((j 0).val - (1024 * (i 1).val + 512 * (i 0).val + 128 * r.val)) = (j 0).val
      omega
    | 1 =>
      refine Fin.ext ?_
      show k0_off1 i (BitVec.ofNat 32 (128 * r.val)) 1 + 1 * (j 1).val = (j 1).val
      omega

/-- Which labels are a tile's. -/
theorem mem_lBlk (i : grid0.Coords) (j : S16384.Idx) :
    j ∈ (lBlk i).view.set ↔ (j 0).val / 512 % 2 = (i 0).val ∧ (j 0).val / 1024 = (i 1).val := by
  have h0 : (i 0).val < 2 := (i 0).isLt
  have h1 : (i 1).val < 16 := (i 1).isLt
  have e0 : k0_off2 i 0 = 1024 * (i 1).val + 512 * (i 0).val := congrFun (k0_off2_eq i) 0
  constructor
  · intro hj
    obtain ⟨x, -, rfl⟩ := Finset.mem_map.mp hj
    have hx : (x 0).val < 512 := (x 0).isLt
    have e : ((lBlk i).view.emb x 0).val = k0_off2 i 0 + 1 * (x 0).val := rfl
    rw [e]
    omega
  · rintro ⟨h2, h3⟩
    have hlt : (j 0).val - (1024 * (i 1).val + 512 * (i 0).val) < 512 := by omega
    refine Finset.mem_map.mpr ⟨(ix1 ⟨_, hlt⟩ : S512.Idx), Finset.mem_univ _, funext fun a => ?_⟩
    match a with
    | 0 =>
      refine Fin.ext ?_
      show k0_off2 i 0 + 1 * ((j 0).val - (1024 * (i 1).val + 512 * (i 0).val)) = (j 0).val
      omega

/-- Which entries of the partial sums are in a tile's row. -/
theorem mem_outRow (i : grid0.Coords) (r : Fin 32) (j : S1024x128.Idx) :
    j ∈ (outRow i r).view.set ↔ (j 0).val / 32 % 2 = (i 0).val ∧ (j 0).val / 64 = (i 1).val ∧ (j 0).val % 32 = r.val := by
  have h0 : (i 0).val < 2 := (i 0).isLt
  have h1 : (i 1).val < 16 := (i 1).isLt
  have hr := r.isLt
  constructor
  · intro hj
    obtain ⟨x, -, rfl⟩ := Finset.mem_map.mp hj
    rw [outRow_emb]
    show (64 * (i 1).val + 32 * (i 0).val + r.val) / 32 % 2 = _ ∧ (64 * (i 1).val + 32 * (i 0).val + r.val) / 64 = _ ∧ (64 * (i 1).val + 32 * (i 0).val + r.val) % 32 = _
    omega
  · rintro ⟨h2, h3, h4⟩
    refine Finset.mem_map.mpr ⟨(ix1 (j 1) : S128.Idx), Finset.mem_univ _, (outRow_emb i r _).trans (funext fun a => ?_)⟩
    match a with
    | 0 =>
      refine Fin.ext ?_
      show 64 * (i 1).val + 32 * (i 0).val + r.val = (j 0).val
      omega
    | 1 => rfl

/-- What tile `i` holds: its blocks of the features, its labels, and its rows of the partial sums at `f`. -/
abbrev tileRes (f : Buf (Elt F) (pLoc d)) (i : grid0.Coords) : sProp 𝕄 :=
  iprop((bigSep Finset.univ fun r : Fin 4 => fLoc d ↦[(fBlk i r).view.set]{fullShare} m (fLoc d))
    ∗ (lLoc d ↦[(lBlk i).view.set]{fullShare} m (lLoc d))
    ∗ bigSep Finset.univ fun r : Fin 32 => pLoc d ↦[(outRow i r).view.set]{fullShare} f)

/-- A core or tile as the launch counts them, as the kernel's grid does. -/
abbrev coordsK (c : Fin ((K (F := F)).nCore 0)) (s : Fin ((K (F := F)).nSub 0)) : grid0.Coords := coordsV ⟨c.val, c.isLt⟩ ⟨s.val, s.isLt⟩

/-- The three arrays whole are what all the tiles hold. -/
theorem tiles_split (f : Buf (Elt F) (pLoc d)) :
    (iprop((fLoc d ↦{fullShare} m (fLoc d)) ∗ (lLoc d ↦{fullShare} m (lLoc d)) ∗ (pLoc d ↦{fullShare} f)) : sProp 𝕄)
      = bigSep Finset.univ fun c : Fin ((K (F := F)).nCore 0) => bigSep Finset.univ fun s : Fin ((K (F := F)).nSub 0) =>
          tileRes m d f (coordsK (F := F) c s) := by
  simp only [bigSep_sep']
  have b0 : (K (F := F)).nCore 0 = 2 := rfl
  have b1 : (K (F := F)).nSub 0 = 16 := rfl
  rw [whole_split (ℓ := fLoc d) (ι := Fin ((K (F := F)).nCore 0) × Fin ((K (F := F)).nSub 0) × Fin 4)
      (fun (j : S16384x128.Idx) => (⟨(j 0).val / 512 % 2, Nat.mod_lt _ (by decide)⟩, ⟨(j 0).val / 1024, by
        have h : (j 0).val < 16384 := (j 0).isLt
        rw [b1]; omega⟩, ⟨(j 0).val / 128 % 4, Nat.mod_lt _ (by decide)⟩))
      (fun t => (fBlk (coordsK (F := F) t.1 t.2.1) t.2.2).view.set)
      (fun t j => (mem_fBlk _ _ _).trans (by
        obtain ⟨c, s, r⟩ := t
        simp only [Prod.mk.injEq, Fin.ext_iff]
        rfl)) (m (fLoc d)),
    whole_split (ℓ := lLoc d) (ι := Fin ((K (F := F)).nCore 0) × Fin ((K (F := F)).nSub 0))
      (fun (j : S16384.Idx) => (⟨(j 0).val / 512 % 2, Nat.mod_lt _ (by decide)⟩, ⟨(j 0).val / 1024, by
        have h : (j 0).val < 16384 := (j 0).isLt
        rw [b1]; omega⟩))
      (fun t => (lBlk (coordsK (F := F) t.1 t.2)).view.set)
      (fun t j => (mem_lBlk _ _).trans (by
        obtain ⟨c, s⟩ := t
        simp only [Prod.mk.injEq, Fin.ext_iff]
        rfl)) (m (lLoc d)),
    whole_split (ℓ := pLoc d) (ι := Fin ((K (F := F)).nCore 0) × Fin ((K (F := F)).nSub 0) × Fin 32)
      (fun (j : S1024x128.Idx) => (⟨(j 0).val / 32 % 2, Nat.mod_lt _ (by decide)⟩, ⟨(j 0).val / 64, by
        have h : (j 0).val < 1024 := (j 0).isLt
        rw [b1]; omega⟩, ⟨(j 0).val % 32, Nat.mod_lt _ (by decide)⟩))
      (fun t => (outRow (coordsK (F := F) t.1 t.2.1) t.2.2).view.set)
      (fun t j => (mem_outRow _ _ _).trans (by
        obtain ⟨c, s, r⟩ := t
        simp only [Prod.mk.injEq, Fin.ext_iff]
        rfl)) f]
  simp only [bigSep_univ_prod]

end Cert.Proof

end
-- ==== Proof.Task.lean ====
/-
  A tile's task as the launch asks for it: from the tile's shares of the arrays and everything the tile owns, back to
  the same with the tile's rows of the partial sums in place.
-/
module

public import proofs.«01_k».proof.Proof.Rows
public import Idealize.ShloMosaic.Lib.SparseCore.Launch

@[expose] public section

noncomputable section

namespace Cert.Proof

open Cert.KernelIdeal Cert.KernelIdeal.Gen Cert.Proof.Accum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (i : grid0.Coords)

/-! ## The tile's semaphores -/

/-- One of the tile's own semaphores. -/
abbrev cell (s : DmaSem sig) : GSem nD τ sig := (thr d i, SemLoc.dma s)

/-- Different semaphores of a tile are different. -/
theorem cell_inj {a b : DmaSem sig} (h : cell d i a = cell d i b) : a = b :=
  SemLoc.dma.inj (Prod.mk.inj h).2

/-- Of two sets of semaphores, one in the other, the larger's are the smaller's and the rest. -/
theorem cells_split (c : Finset (DmaSem sig)) (hc : ∀ s ∈ c, (SemLoc.dma s : SemLoc sig).isScoped .scVector = true) :
    (ownSems0 (thr d i) : sProp 𝕄)
      = iprop((bigSep c fun s => semVal (cell d i s) 0)
          ∗ bigSep (ownCells (thr d i) \ c.map ⟨cell d i, fun _ _ h => cell_inj d i h⟩) fun g => semVal g 0) := by
  unfold SparseCore.Cfg.ownSems0
  rw [SparseCore.bigSep_sdiff_split' (t := c.map ⟨cell d i, fun _ _ h => cell_inj d i h⟩) (fun g hg => by
    obtain ⟨s, hs, rfl⟩ := Finset.mem_map.mp hg
    exact mem_ownCells.mpr ⟨rfl, hc s hs⟩), bigSep_map]
  rfl

/-- The copies' five first semaphores. -/
def sems5 : Finset (DmaSem sig) := {cc0_scratch6.sem, cc0_scratch7.sem, cc0_scratch8.sem, cc0_scratch9.sem, cc0_scoped0.sem}

/-- The rows' semaphores. -/
def semsRow : Finset (DmaSem sig) := Finset.univ.map ⟨rowSem, by decide⟩

/-- The rows' semaphores are none of the first five. -/
theorem sems_disjoint : Disjoint sems5 semsRow := by decide

/-- The tile's semaphores that its body uses, and the rest. -/
theorem ownSems0_V : (ownSems0 (thr d i) : sProp 𝕄)
    = iprop(((semVal (cell d i cc0_scratch6.sem) 0 ∗ semVal (cell d i cc0_scratch7.sem) 0 ∗ semVal (cell d i cc0_scratch8.sem) 0
        ∗ semVal (cell d i cc0_scratch9.sem) 0 ∗ semVal (cell d i cc0_scoped0.sem) 0)
      ∗ (bigSep Finset.univ fun r => semVal (cell d i (rowSem r)) 0))
      ∗ bigSep (ownCells (thr d i) \ (sems5 ∪ semsRow).map ⟨cell d i, fun _ _ h => cell_inj d i h⟩) fun g => semVal g 0) := by
  rw [cells_split d i (sems5 ∪ semsRow) (by decide), SparseCore.bigSep_union' sems_disjoint]
  unfold semsRow
  rw [bigSep_map]
  unfold sems5
  rw [SparseCore.bigSep_insert' (by decide), SparseCore.bigSep_insert' (by decide), SparseCore.bigSep_insert' (by decide),
    SparseCore.bigSep_insert' (by decide), bigSep_singleton]
  rfl

/-! ## The tile's scratches -/

/-- One of the tile's own buffers. -/
abbrev bref (b : Ref sig .scVector) : DevRef τ sig := (Proc.scVector (cV i) (jV i)).devRef b

/-- Different buffers of a tile are different. -/
theorem bref_inj {a b : Ref sig .scVector} (h : bref i a = bref i b) : a = b := Proc.devRef_injective _ h

/-- The scratches. -/
def bufs6 : Finset (Ref sig .scVector) := {cc0_scratch0, cc0_scratch1, cc0_scratch2, cc0_scratch3, cc0_scratch4, cc0_scratch5}

/-- The tile's scratches, each at some contents, and its other buffers. -/
theorem ownBufs_V : (ownBufs (thr d i) : sProp 𝕄)
    = iprop(((∃ f, (thr d i).loc cc0_scratch0 ↦{fullShare} f) ∗ (∃ f, (thr d i).loc cc0_scratch1 ↦{fullShare} f)
        ∗ (∃ f, (thr d i).loc cc0_scratch2 ↦{fullShare} f) ∗ (∃ f, (thr d i).loc cc0_scratch3 ↦{fullShare} f)
        ∗ (∃ f, (thr d i).loc cc0_scratch4 ↦{fullShare} f) ∗ (∃ f, (thr d i).loc cc0_scratch5 ↦{fullShare} f))
      ∗ bigSep (ownRefs (τ := τ) (.scVector (cV i) (jV i)) \ bufs6.map ⟨bref i, fun _ _ h => bref_inj i h⟩)
          fun b => iprop(∃ f, ((d, b) : Loc nD τ sig) ↦{fullShare} f)) := by
  unfold SparseCore.Cfg.ownBufs
  refine (SparseCore.bigSep_sdiff_split' (t := bufs6.map ⟨bref i, fun _ _ h => bref_inj i h⟩) (fun g hg => by
    obtain ⟨s, hs, rfl⟩ := Finset.mem_map.mp hg
    refine SparseCore.Cfg.mem_ownRefs_of_owner (p := Proc.scVector (cV i) (jV i)) (b := bref i s) ?_
    simp only [bufs6, Finset.mem_insert, Finset.mem_singleton] at hs
    rcases hs with rfl | rfl | rfl | rfl | rfl | rfl <;> rfl)).trans ?_
  rw [bigSep_map]
  unfold bufs6
  rw [SparseCore.bigSep_insert' (by decide), SparseCore.bigSep_insert' (by decide), SparseCore.bigSep_insert' (by decide),
    SparseCore.bigSep_insert' (by decide), SparseCore.bigSep_insert' (by decide), bigSep_singleton]
  rfl

/-! ## The task -/

/-- The task on tile `i`, from its shares of the arrays to the same with its rows of the partial sums in place. -/
theorem tile_body (hF : (K (F := F)).Facts) (hlab : ∀ j : S16384.Idx, (m (lLoc d) j : BitVec 32).toNat < 26)
    (O : CellTallies nD τ sig (HIx 1)) (W : Waits sig (HIx 1)) (hO : ∀ g, O g none = 0) :
    iprop(levAts (K (F := F)).L (K (F := F)).lev ∗ emp ∗ tileRes m d (m (pLoc d)) i
        ∗ scopedBufs (thr d i) ∗ scopedSems0 (thr d i) ∗ owes (thr d i) O W)
      ⊢ wp frame (wpE (defs₀ (F := F)) 𝒱₀ (thr d i) none) Set.univ (tileProg i)
          fun _ => iprop(tileRes m d (partV m d) i ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_V, ownBufs_V]
  unfold tileRes
  rw [show (Finset.univ : Finset (Fin 4)) = {0, 1, 2, 3} by decide, SparseCore.bigSep_insert' (by decide), SparseCore.bigSep_insert' (by decide),
    SparseCore.bigSep_insert' (by decide), bigSep_singleton]
  iintro ⟨#Hlv, -, ⟨⟨Hf0, Hf1, Hf2, Hf3⟩, Hl, Hp⟩, ⟨⟨⟨%x0, H0⟩, ⟨%x1, H1⟩, ⟨%x2, H2⟩, ⟨%x3, H3⟩, ⟨%xl, H4⟩, ⟨%xa, H5⟩⟩, Hbufs⟩,
    ⟨⟨⟨Hs0, Hs1, Hs2, Hs3, Hs4⟩, Hsr⟩, Hsems⟩, HO⟩
  iapply wp_wand $$ [Hf0 Hf1 Hf2 Hf3 Hl Hp H0 H1 H2 H3 H4 H5 Hs0 Hs1 Hs2 Hs3 Hs4 Hsr HO]
  · iapply (tileProg_wp m d i hlab (m (pLoc d)) (partV m d) (partV_row i m d) O W x0 x1 x2 x3 xl xa)
    isplitr
    · iapply ((K (F := F)).mayWaits_none (thr := thr d i) hO); iexact Hlv
    isplitl [Hf0]; · iexact Hf0
    isplitl [Hf1]; · iexact Hf1
    isplitl [Hf2]; · iexact Hf2
    isplitl [Hf3]; · iexact Hf3
    isplitl [Hl]; · iexact Hl
    isplitl [Hp]; · iexact Hp
    isplitl [H0]; · iexact H0
    isplitl [H1]; · iexact H1
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    isplitl [Hs3]; · iexact Hs3
    isplitl [Hs4]; · iexact Hs4
    isplitl [Hsr]; · iexact Hsr
    iexact HO
  iintro %_ ⟨Hf0, Hf1, Hf2, Hf3, Hl, Hp, ⟨%y0, H0⟩, ⟨%y1, H1⟩, ⟨%y2, H2⟩, ⟨%y3, H3⟩, ⟨%yl, H4⟩, ⟨%ya, H5⟩, Hs0, Hs1, Hs2, Hs3, Hs4, Hsr, HW⟩
  isplitl [Hf0 Hf1 Hf2 Hf3 Hl Hp]
  · isplitl [Hf0 Hf1 Hf2 Hf3]
    · isplitl [Hf0]; · iexact Hf0
      isplitl [Hf1]; · iexact Hf1
      isplitl [Hf2]; · iexact Hf2
      iexact Hf3
    isplitl [Hl]; · iexact Hl
    iexact Hp
  isplitl [H0 H1 H2 H3 H4 H5 Hbufs]
  · isplitr [Hbufs]; swap; · iexact Hbufs
    isplitl [H0]; · iexists y0; iexact H0
    isplitl [H1]; · iexists y1; iexact H1
    isplitl [H2]; · iexists y2; iexact H2
    isplitl [H3]; · iexists y3; iexact H3
    isplitl [H4]; · iexists yl; iexact H4
    iexists ya; iexact H5
  isplitr [HW]; swap; · iexact HW
  isplitr [Hsems]; swap; · iexact Hsems
  isplitr [Hsr]; swap; · iexact Hsr
  isplitl [Hs0]; · iexact Hs0
  isplitl [Hs1]; · iexact Hs1
  isplitl [Hs2]; · iexact Hs2
  isplitl [Hs3]; · iexact Hs3
  iexact Hs4

end Cert.Proof

end
-- ==== Proof.Fin.lean ====
/-
  The last kernel, on the TensorCore. It adds up the 32 shards of partial sums and computes the loss from them, from the
  centers and from the rules. The kernel has one point: its windows are whole arrays. Its run gives a function of what
  its windows hold, and the function is named here by that run.
-/
module

public import Idealize.ShloMosaic.Lib.Pipeline.RegionsLoop
public import Idealize.ShloMosaic.Lib.Pipeline.Value
public import proofs.«01_k».proof.Proof.Base

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What a whole memref's buffer holds, and the buffer held whole at `f`. -/
abbrev Bf (c : Dev nD) {sp : Space} {S : Shape} {e : EltTy} (M : Memref sig .tc sp S e) : Type := Buf (Elt F) (M.view.loc (c.tc : Thread nD τ))
abbrev pt (c : Dev nD) {sp : Space} {S : Shape} {e : EltTy} (M : Memref sig .tc sp S e) (f : Bf (F := F) c M) : sProp 𝕄 :=
  M.view.loc (c.tc : Thread nD τ) ↦{fullShare} f

/-! ## The body's run -/

set_option maxHeartbeats 4000000 in
/-- What the kernel leaves in its result's buffer, with the proof that it does. -/
noncomputable def finRun (c : Dev nD) (f0 : Bf (F := F) c (stage1_0 0)) (f1 : Bf (F := F) c (stage1_1 0)) (f2 : Bf (F := F) c (stage1_2 0)) :
    { W : Bf (F := F) c (stage1_3 0) // ∀ (f3 : Bf (F := F) c (stage1_3 0)) (E : Set ℕ) (Q : PUnit → sProp 𝕄),
        iprop(pt c (stage1_0 0) f0 ∗ pt c (stage1_1 0) f1 ∗ pt c (stage1_2 0) f2 ∗ pt c (stage1_3 0) f3
            ∗ (iprop(pt c (stage1_0 0) f0 ∗ pt c (stage1_1 0) f1 ∗ pt c (stage1_2 0) f2 ∗ pt c (stage1_3 0) W) -∗ Q ⟨⟩))
          ⊢ wp frame (wpE (defs₀ (F := F)) 𝒱₀ (c.tc : Thread nD τ) none) E
              (cc1__fin_body (stage1_0 0) (hstage1_0 0) (stage1_1 0) (hstage1_1 0) (stage1_2 0) (hstage1_2 0) (stage1_3 0) (hstage1_3 0)) Q } := by
  refine ⟨?_, fun f3 E Q => ?run⟩
  case run =>
    iintro ⟨H0, H1, H2, H3, Hk⟩
    sl_exec!
    sl_step
    iapply Hk
    isplitl [H0]; · iexact H0
    isplitl [H1]; · iexact H1
    isplitl [H2]; · iexact H2
    iexact H3

/-! ## The region's proof data, at the arrays' contents on entry -/

variable (V : (c : Dev nD) → (b : Ref sig .tc) → Buf (Elt F) ((c.tc : Thread nD τ).loc b))

/-- The three arrays as the region fetches them. -/
abbrev stg0 (c : Dev nD) : Vec F S1024x128 .f32 := ((cfg1.win 0).blk t1_0).view.read (Elt F) (V c main_v0)
abbrev stg1 (c : Dev nD) : Vec F S26x128 .f32 := ((cfg1.win 1).blk t1_0).view.read (Elt F) (V c main_arg2)
abbrev stg2 (c : Dev nD) : Vec F S26x26 .f32 := ((cfg1.win 2).blk t1_0).view.read (Elt F) (V c main_arg3)

/-- The run at what is fetched. -/
abbrev finAt (c : Dev nD) := finRun (F := F) c (stg0 V c) (stg1 V c) (stg2 V c)

variable (n : ℕ)

/-- The region's proof data. The waits recorded before it are at levels up to `n`, and its own waits add none above. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => (finAt V c).1
  Φ _ := Pipeline.scopedRest (Ix := HIx 1) (Name := ℕ) (U := UU) (Lvl := ℕ) (Val := Elt F) spec1 c
  q _ := fullShare
  owed _ := 0
  recorded _ := {p | (K (F := F)).lev (T c, p.1) p.2 ≤ n}

/-- No pipeline has a prefetched table. -/
def adm : (p : Fin 1) → (pcfgs (F := F) p).Adm := fun _ => ⟨fun k => k.elim0, trivial⟩

/-- The proof data of the program's one region. -/
def pdats : (p : Fin 1) → (c : Dev nD) → Dat τ (Elt F) (HIx 1) ℕ UU ℕ (Pipeline.pin (pcfgs (F := F)) adm p) c
  | ⟨0, _⟩ => fun c => dat V n c

/-- On entry the first window holds the partial sums. -/
theorem before_0 (c : Dev nD) (d : (cfg1.win 0).block.Idx → Elt F (cfg1.win 0).elt) : (dat V n c).before 0 t1_0 d = stg0 V c := by
  unfold Dat.before; rw [if_pos (by decide)]; rfl
/-- On entry the second window holds the centers. -/
theorem before_1 (c : Dev nD) (d : (cfg1.win 1).block.Idx → Elt F (cfg1.win 1).elt) : (dat V n c).before 1 t1_0 d = stg1 V c := by
  unfold Dat.before; rw [if_pos (by decide)]; rfl
/-- On entry the third window holds the rules. -/
theorem before_2 (c : Dev nD) (d : (cfg1.win 2).block.Idx → Elt F (cfg1.win 2).elt) : (dat V n c).before 2 t1_0 d = stg2 V c := by
  unfold Dat.before; rw [if_pos (by decide)]; rfl

/-- The kernel's body, from its four buffers to its four buffers. -/
theorem body_obligation (c : Dev nD) : BodyObligation (dat V n c) (defs₀ (F := F)) 𝒱₀ none Set.univ := fun t => by
  obtain rfl := fin_N1 t
  rw [bigSep_W1, bigSep_W1]
  simp only [owns_whole_eq]
  rw [show (dat V n c).Φ t1_0.succ = (dat V n c).Φ t1_0.castSucc from rfl,
    show (dat V n c).owesAt none t1_0.succ = (dat V n c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply ((finAt V c).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-- The result's array after the region: the write-back of the run's witness. -/
def finOut (c : Dev nD) : Buf (Elt F) ((c.tc : Thread nD τ).loc main_v1) := (dat V n c).arrAt 3 cfg1.N

variable (Vp : (c : Dev nD) → (b : Ref sig .tc) → Buf (Elt F) ((c.tc : Thread nD τ).loc b))

-- a lemma stated over the pinned configurations matches this program's own spelling of one only when plain
-- definitions may be unfolded in the types of the variables still to be found
set_option backward.isDefEq.respectTransparency.types false in
/-- The region: entered with every unscoped buffer at `V`, left with them at `Vp`, which is the run's result at the
    result's array and `V` elsewhere. What the core has waited for stays at levels up to `n`. -/
def reg (hVp_out : ∀ c, Vp c main_v1 = finOut V n c) (hVp_ne : ∀ c (b : Ref sig .tc), b ≠ main_v1 → Vp c b = V c b) :
    Pipeline.RegionSeg (pcfgs (F := F)) adm (pdats V n) none (defs₀ (F := F)) 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V n c).loose
  hwaits := Pipeline.hwaits_of_owed_zero _ _ _ _ (K (F := F)).L (K (F := F)).lev 0 fun _ _ => rfl
  pre c := iprop(unscopedBufs c (V c) ∗ ∃ W, ⌜(K (F := F)).WBelow (T c) W n⌝ ∗ owes (c.tc : Thread nD τ) (0 : CellTallies nD τ sig (HIx 1)) W)
  post c := iprop(unscopedBufs c (Vp c) ∗ ∃ W, ⌜(K (F := F)).WBelow (T c) W n⌝ ∗ owes (c.tc : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V n) (launch1).win (launch1).arr_whole c
      ((pdats V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V n 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V n 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V n) ((pdats V n 0 c).share_full fun _ => rfl) (V c) (Vp c) ((pdats V n 0 c).arrAt · cfg1.N)
      (fun w => by
        fin_cases w
        · exact ((pdats V n 0 c).arrAt_in 0 rfl _).trans (hVp_ne c main_v0 (by decide)).symm
        · exact ((pdats V n 0 c).arrAt_in 1 rfl _).trans (hVp_ne c main_arg2 (by decide)).symm
        · exact ((pdats V n 0 c).arrAt_in 2 rfl _).trans (hVp_ne c main_arg3 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | h
    · exact h
    · obtain ⟨w, k, rfl⟩ := h
      exact ((K (F := F)).lev_none _).le.trans (Nat.zero_le n)

/-- The result's array has one entry. -/
theorem one_entry (a b : S1x1.Idx) : a = b := funext fun k => by
  match k with
  | 0 => exact Subsingleton.elim (α := Fin 1) (a 0) (b 0)
  | 1 => exact Subsingleton.elim (α := Fin 1) (a 1) (b 1)

/-- The result's array after the region is the run's value. -/
theorem finOut_eq (c : Dev nD) : finOut V n c = (finAt V c).1 := by
  refine (dat V n c).arrAt_eq_of_cover 3 (finAt V c).1 (fun t _ => ?_) fun i => ⟨t1_0, flush1_3 _, ?_⟩
  · obtain rfl := fin_N1 t
    funext i
    exact congrArg (finAt V c).1 (one_entry _ _)
  · refine Finset.mem_map.mpr ⟨i, Finset.mem_univ _, one_entry _ _⟩

end Cert.Proof

end
-- ==== Proof.Launch.lean ====
/-
  The SparseCore call as the launch asks for it: what it moves, its tiles' tasks, and the ghost state it starts from.
-/
module

public import proofs.«01_k».proof.Proof.Task
public import proofs.«01_k».proof.Proof.Fin
public import Idealize.ShloMosaic.Lib.SparseCore.Quiescent
public import Idealize.ShloMosaic.Lib.Pipeline.Kit

@[expose] public section

noncomputable section

namespace Cert.Proof

open Cert.KernelIdeal Cert.KernelIdeal.Gen Cert.Proof.Accum

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (cellsGhost toksInit)

variable {F : FTy → Type} [FloatOps F]

local notation "𝕄" => MT nD τ sig (HIx 1) (Elt F) ℕ UU ℕ

abbrev 𝒱 : Variants := 𝒱₀.lift
abbrev v₀ : 𝒱.V := Sum.inl none

variable (m : (ℓ : Loc nD τ sig) → Buf (Elt F) ℓ) (ρ : Dev nD → PrngReg)

/-! ## What the call moves: the shares of its tiles -/

/-- The call takes each core's tiles' shares, each tile its own, and brings them back with the partial sums in place. -/
def P : (K (F := F)).Pay (nD := nD) (Val := Elt F) (Name := ℕ) (U := UU) where
  st := fun q d c => match q with | 0 => bigSep Finset.univ fun s : Fin ((K (F := F)).nSub 0) => tileRes m d (m (pLoc d)) (coordsK (F := F) c s)
  dn := fun q d c => match q with | 0 => bigSep Finset.univ fun s : Fin ((K (F := F)).nSub 0) => tileRes m d (partV m d) (coordsK (F := F) c s)
  go := fun q d c s => match q with | 0 => tileRes m d (m (pLoc d)) (coordsK (F := F) c s)
  td := fun q d c s => match q with | 0 => tileRes m d (partV m d) (coordsK (F := F) c s)
  x := fun _ _ => iprop(emp)

instance P_storable : (P (F := F) m).IsStorable where
  st q d c := match q with
    | 0 => (inferInstance : BI.Storable (upEmb : UEmb _ 𝕄) (bigSep Finset.univ fun s : Fin ((K (F := F)).nSub 0) => tileRes m d (m (pLoc d)) (coordsK (F := F) c s)))
  dn q d c := match q with
    | 0 => (inferInstance : BI.Storable (upEmb : UEmb _ 𝕄) (bigSep Finset.univ fun s : Fin ((K (F := F)).nSub 0) => tileRes m d (partV m d) (coordsK (F := F) c s)))
  go q d c s := match q with
    | 0 => (inferInstance : BI.Storable (upEmb : UEmb _ 𝕄) (tileRes m d (m (pLoc d)) (coordsK (F := F) c s)))
  td q d c s := match q with
    | 0 => (inferInstance : BI.Storable (upEmb : UEmb _ 𝕄) (tileRes m d (partV m d) (coordsK (F := F) c s)))

/-- Every label of the launch memory is below the number of classes. -/
def LabOK : Prop := ∀ (d : Dev nD) (j : S16384.Idx), (m (lLoc d) j : BitVec 32).toNat < 26

/-! ## The launch theorem's obligations -/

omit [FloatOps F] in
/-- Weaker evidence of the waits left: each was there before, or is at no level, or is at the call's. -/
theorem waits_call (thr : Thread nD τ) (O : CellTallies nD τ sig (HIx 1)) (W : Waits sig (HIx 1)) (q : Fin 1) :
    (iprop(∃ V, ⌜∀ p ∈ V, p ∈ W ∨ p.2 = none⌝ ∗ owes thr O V) : sProp 𝕄)
      ⊢ iprop(∃ V, ⌜∀ p ∈ V, p ∈ W ∨ p.2 = none ∨ p.2 = some q⌝ ∗ owes thr O V) := by
  iintro ⟨%V, %h, H⟩
  iexists V
  isplitr [H]
  · ipureintro
    intro p hp
    rcases h p hp with h | h
    exacts [.inl h, .inr (.inl h)]
  iexact H

/-- What the call starts on a tile: the body at the tile's coordinates, on cores that take part. -/
theorem defs₀_vector (c : Fin τ.nSC) (s : Fin τ.nSub) :
    defs₀ (F := F) (.scVector c s) 0 ()
      = SparseCore.onTile hcore0 hsub0 (fun c s => cc0__seg_body (F := F) (coordsV c s) fM (Memref.isWhole_whole _) lM (Memref.isWhole_whole _) pM (Memref.isWhole_whole _) b0M (Memref.isWhole_whole _) b1M (Memref.isWhole_whole _) b2M (Memref.isWhole_whole _) b3M (Memref.isWhole_whole _) labM (Memref.isWhole_whole _) accM (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

/-- Each tile's task takes its share to its share with its rows of the partial sums in place. -/
theorem tileObl (hF : (K (F := F)).Facts) (hlab : LabOK m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  rw [body_eq]
  exact (tile_body m d (coordsV ⟨_, hc.1⟩ ⟨_, hc.2⟩) hF (hlab d) O W hO).trans (wp_mono frame _ _ fun _ =>
    sep_mono_right (sep_mono_right (sep_mono_right (waits_call _ _ _ _))))

/-- A SparseCore's share is its tiles' shares, before the call and after it. -/
theorem vecSplit : (K (F := F)).VecSplit' (P m) 0 := by
  intro d c
  show (bigSep Finset.univ fun s : Fin ((K (F := F)).nSub 0) => tileRes m d (m (pLoc d)) (coordsK (F := F) c s)) ⊢ |={Set.univ}=> iprop(
      (bigSep Finset.univ fun s : Fin ((K (F := F)).nSub 0) => tileRes m d (m (pLoc d)) (coordsK (F := F) c s))
      ∗ ((bigSep Finset.univ fun s : Fin ((K (F := F)).nSub 0) => tileRes m d (partV m d) (coordsK (F := F) c s))
          -∗ bigSep Finset.univ fun s : Fin ((K (F := F)).nSub 0) => tileRes m d (partV m d) (coordsK (F := F) c s)))
  iintro H; imodintro
  isplitl [H]; · iexact H
  iintro H; iexact H

/-! ## The ghost state: the handshakes' rounds and the region's cells -/

/-- The launch's ghost state: the handshakes' rounds and the region's cells. -/
def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

/-- What the launch deals a device for its region. -/
def G (d : Dev nD) : sProp 𝕄 :=
  iprop(cellsGhost (Pipeline.pin (pcfgs (F := F)) adm) EP 0 d ∗ toksInit (Pipeline.pin (pcfgs (F := F)) adm) EP 0 d)

omit [FloatOps F] in
/-- An assertion for each of one pipeline is that assertion. -/
theorem bigSep_one (Φ : Fin 1 → Dev nD → sProp 𝕄) :
    (bigSep Finset.univ fun d => bigSep Finset.univ fun p => Φ p d) = bigSep Finset.univ fun d => Φ 0 d :=
  bigSep_congr fun _ _ => bigSep_univ_of_subsingleton (0 : Fin 1)

omit [FloatOps F] in
/-- The ghost state's parts: the handshakes' and the region's. -/
theorem ownU_three (a : UH) (b : UP) : (ownU ((a, b), 1) : sProp 𝕄) ⊢ iprop(BI.own (EH a) ∗ BI.own (EP b)) := by
  refine (Idealize.ShloMosaic.ownU_pair _ _).trans (BIBase.Entails.trans sep_elim_left ?_)
  exact BI.own_op_elim ((embL : Emb (UH × UP) 𝕄).op_of_mem (Prod.mk_mem_op (URA.mem_op_one a) (URA.mem_one_op b)))

/-- The launch's ghost state, dealt out to the handshakes and to the devices' regions. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_three _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    isplitl [Hc]
    · iapply (Entails.of_eq (bigSep_one (F := F) fun p d => cellsGhost (Pipeline.pin (pcfgs (F := F)) adm) EP p d)); iexact Hc
    · iapply (Entails.of_eq (bigSep_one (F := F) fun p d => toksInit (Pipeline.pin (pcfgs (F := F)) adm) EP p d)); iexact Ht
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

end Cert.Proof

end
-- ==== Proof.Main.lean ====
/-
  @main on the TensorCore: the SparseCore call, the region and the reshape, with every array's contents at the end.
-/
module

public import proofs.«01_k».proof.Proof.Launch
public import Idealize.ShloMosaic.Lib.SparseCore.Quiescent
public import Idealize.ShloMosaic.Lib.Pipeline.Kit

@[expose] public section

noncomputable section

namespace Cert.Proof

open Cert.KernelIdeal Cert.KernelIdeal.Gen Cert.Proof.Accum

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.StableHlo (held held_split held_sdiff_result wp_hlo_within)
open Idealize.ShloMosaic.Pipeline (cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

/-- The TensorCore's arrays. -/
def S7 : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c.tc : Thread nD τ) S7 W := by
  unfold unscopedBufs held S7 StableHlo.tcRefs
  rw [Finset.filter_map, bigSep_map]
  rfl

set_option maxRecDepth 4096 in
/-- The arrays one by one. -/
theorem unscopedBufs_eq (d : Dev nD) (W : (b : Ref sig .tc) → Buf (Elt F) ((d.tc : Thread nD τ).loc b)) :
    (unscopedBufs d W : sProp 𝕄) = iprop((fLoc d ↦{fullShare} W main_arg0) ∗ (lLoc d ↦{fullShare} W main_arg1) ∗ (cLoc d ↦{fullShare} W main_arg2)
      ∗ (rLoc d ↦{fullShare} W main_arg3) ∗ (pLoc d ↦{fullShare} W main_v0) ∗ (oLoc d ↦{fullShare} W main_v1) ∗ sLoc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev pRef : DevRef τ sig := Proc.devRef .tc (main_v0 : Ref sig .tc)
abbrev oRef : DevRef τ sig := Proc.devRef .tc (main_v1 : Ref sig .tc)
abbrev sRef : DevRef τ sig := Proc.devRef .tc (main_v2 : Ref sig .tc)

/-- The arrays at launch, after the SparseCore call, after the region and after the reshape. -/
def W0 (d : Dev nD) : Valuation τ sig (Elt F) := fun b => m (d, b)
def W1 (d : Dev nD) : Valuation τ sig (Elt F) := Function.update (W0 m d) pRef (partV m d)
abbrev VR (d : Dev nD) (b : Ref sig .tc) : Buf (Elt F) ((d.tc : Thread nD τ).loc b) := W1 m d b
def W2 (d : Dev nD) : Valuation τ sig (Elt F) := Function.update (W1 m d) oRef (finAt (VR m) d).1
abbrev opRe : HloOp τ sig (Elt F) := StableHlo.reshape main_v1 main_v2 (rfl : (.f32 : EltTy) = .f32) shapeCasts_S1x1_S_
def W3 (d : Dev nD) : Valuation τ sig (Elt F) := (opRe (F := F)).result (W2 m d)

/-- The reshape touches the arrays only. -/
theorem hRe : (opRe (F := F)).bufs ⊆ S7 := show ({oRef, sRef} : Finset (DevRef τ sig)) ⊆ S7 by decide

/-- The region on every device; `n` bounds the levels of the waits before it. -/
abbrev regAt (n : ℕ) := reg (VR m) n (fun d b => W2 m d b)
  (fun d => (Function.update_self _ _ _).trans (finOut_eq (VR m) n d).symm)
  (fun d b hb => Function.update_of_ne (fun e => hb (Proc.devRef_injective _ e)) _ _)

/-- What @main leaves the claim: every array at its final contents. -/
abbrev FIN (d : Dev nD) : sProp 𝕄 := unscopedBufs d (fun b => W3 m d b)

/-- What the call takes: the features, the labels and the partial sums' array, whole. -/
theorem st0_eq (d : Dev nD) : (bigSep Finset.univ fun c : Fin ((K (F := F)).nCore 0) => (P m).st 0 d c)
    = iprop((fLoc d ↦{fullShare} m (fLoc d)) ∗ (lLoc d ↦{fullShare} m (lLoc d)) ∗ (pLoc d ↦{fullShare} m (pLoc d))) :=
  (tiles_split m d (m (pLoc d))).symm
/-- What the call gives back: the same with the partial sums in their array. -/
theorem dn0_eq (d : Dev nD) : (bigSep Finset.univ fun c : Fin ((K (F := F)).nCore 0) => (P m).dn 0 d c)
    = iprop((fLoc d ↦{fullShare} m (fLoc d)) ∗ (lLoc d ↦{fullShare} m (lLoc d)) ∗ (pLoc d ↦{fullShare} partV m d)) :=
  (tiles_split m d (partV m d)).symm

/-- Once its one call is done the TensorCore owes nothing, and what it has waited for is at bounded levels. -/
theorem tcSt_one (d : Dev nD) : ∃ (n : ℕ) (R : sProp 𝕄), (K (F := F)).tcSt EH d ((0 : Fin 1).val + 1)
    = iprop((∃ W, ⌜(K (F := F)).WBelow (T d) W n⌝ ∗ owes (T d) (0 : CellTallies nD τ sig (HIx 1)) W) ∗ R) :=
  ⟨_, _, by unfold SparseCore.Cfg.tcSt; rw [(K (F := F)).Otc_end d (show 1 ≤ (0 : Fin 1).val + 1 from le_rfl)]⟩

/-- The region's call in @main: every array at `VR`, then every array at `W2`. -/
theorem region_wp [∀ e, Nonempty (Elt F e)] (d : Dev nD) (n : ℕ) (Q : PUnit → sProp 𝕄) :
    iprop((iprop(boundary (T d) ∗ unscopedBufs d (fun b => W2 m d b) ∗ ∃ W, ⌜(K (F := F)).WBelow (T d) W n⌝ ∗ owes (T d) (0 : CellTallies nD τ sig (HIx 1)) W) -∗ Q ⟨⟩)
        ∗ boundary (T d) ∗ (unscopedBufs d (VR m d) ∗ ∃ W, ⌜(K (F := F)).WBelow (T d) W n⌝ ∗ owes (T d) (0 : CellTallies nD τ sig (HIx 1)) W)
        ∗ levAts (K (F := F)).L (K (F := F)).lev
        ∗ cellsGhost (Pipeline.pin (pcfgs (F := F)) adm) EP 0 d ∗ toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q := by
  have H := Pipeline.RegionSeg.wp (pcfgs (F := F)) adm (pdats (VR m) n) none cellOf_inj EP (defs₀ (F := F)) 𝒱₀ (K (F := F)).L (K (F := F)).lev
    (regAt m n) d none (fun _ h => absurd h (Option.not_mem_none _)) (α := PUnit) .ret Q
  have H2 := (K (F := F)).wp_liftProg (D (F := F)) 𝒱 (T d) Set.univ none (.op (.customCall (Pipeline.entry 0) ()) .ret) Q
  refine BIBase.Entails.trans ?_ (H.trans H2)
  have hpre : (regAt m n).pre d = iprop(unscopedBufs d (VR m d) ∗ ∃ W, ⌜(K (F := F)).WBelow (T d) W n⌝ ∗ owes (T d) (0 : CellTallies nD τ sig (HIx 1)) W) := rfl
  have hpost : (regAt m n).post d = iprop(unscopedBufs d (fun b => W2 m d b) ∗ ∃ W, ⌜(K (F := F)).WBelow (T d) W n⌝ ∗ owes (T d) (0 : CellTallies nD τ sig (HIx 1)) W) := rfl
  rw [wp_ret, hpre, hpost]
  iintro ⟨Hk, Hb, Hpre, Hlv, Hcg, Htk⟩
  isplitl [Hk]
  · iintro ⟨Hb, Hpost⟩
    imodintro
    iapply Hk
    isplitl [Hb]; · iexact Hb
    iexact Hpost
  isplitl [Hb]; · iexact Hb
  isplitl [Hpre]; · iexact Hpre
  isplitl [Hlv]; · iexact Hlv
  isplitl [Hcg]; · iexact Hcg
  iexact Htk

/-- On entry to the region the features are as launched; so are the labels, centers and rules. -/
theorem VR_f (d : Dev nD) : VR m d main_arg0 = m (fLoc d) := Function.update_of_ne (by decide) _ _
/-- The labels are as launched. -/
theorem VR_l (d : Dev nD) : VR m d main_arg1 = m (lLoc d) := Function.update_of_ne (by decide) _ _
/-- The centers are as launched. -/
theorem VR_c (d : Dev nD) : VR m d main_arg2 = m (cLoc d) := Function.update_of_ne (by decide) _ _
/-- The rules are as launched. -/
theorem VR_r (d : Dev nD) : VR m d main_arg3 = m (rLoc d) := Function.update_of_ne (by decide) _ _
/-- The partial sums are the tiles'. -/
theorem VR_p (d : Dev nD) : VR m d main_v0 = partV m d := Function.update_self _ _ _
/-- The loss's array is as launched. -/
theorem VR_o (d : Dev nD) : VR m d main_v1 = m (oLoc d) := Function.update_of_ne (by decide) _ _
/-- The result is as launched. -/
theorem VR_s (d : Dev nD) : VR m d main_v2 = m (sLoc d) := Function.update_of_ne (by decide) _ _

/-- @main on a device's TensorCore: the SparseCore call fills the partial sums, the region the loss, the reshape the
    result; every array is handed on at its final contents. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨n, R, hR⟩ := tcSt_one (F := F) d
  unfold SparseCore.Cfg.tcRes SparseCore.Cfg.tcEnd G
  rw [unscopedBufs_eq]
  simp only [main, wp_bind, wp_pure]
  iintro ⟨#Hctx, Hst, ⟨Hb, ⟨Hf, Hl, Hc, Hr, Hp, Ho, Hs⟩, Hts, -⟩, Hcg, Htk⟩
  iapply ((K (F := F)).wp_run (D (F := F)) 𝒱 (EH := EH) (P := P m) κ d 0) $$ [Hst Hf Hl Hc Hr Hp Ho Hs Hb Hts Hcg Htk]
  isplitr; · iexact Hctx
  isplitl [Hst]; · iexact Hst
  isplitl [Hf Hl Hp]
  · rw [st0_eq]
    isplitl [Hf]; · iexact Hf
    isplitl [Hl]; · iexact Hl
    iexact Hp
  iintro ⟨Hst, Hdn⟩
  ihave Hdn' := (Entails.of_eq (dn0_eq m d)) $$ Hdn
  icases Hdn' with ⟨Hf, Hl, Hp⟩
  ihave Hst' := (Entails.of_eq hR) $$ Hst
  icases Hst' with ⟨HO, HR⟩
  ihave Hlv := (SparseCore.Cfg.ctx_levAts (EH := EH) (P := P m) κ) $$ Hctx
  iapply (region_wp m d n _) $$ [Hf Hl Hc Hr Hp Ho Hs Hb Hts Hcg Htk HO HR Hlv]
  isplitl [Hts HR]
  · iintro ⟨Hb, Hu, HO⟩
    ihave Hh := (Entails.of_eq (unscopedBufs_held d (W2 m d))) $$ Hu
    iapply (wp_hlo_within 𝒱 (SparseCore.T d) none Set.univ (op := opRe) (S := S7) hRe (V := W2 m d)) $$ [Hb Hh]
    · isplitl [Hb]; · iexact Hb
      iexact Hh
    iintro ⟨Hb, Hh⟩
    rw [wp_ret]; imodintro; imodintro
    isplitl [HO HR]
    · iapply (Entails.of_eq hR.symm) $$ [HO HR]
      isplitl [HO]; · iexact HO
      iexact HR
    isplitl [Hh]
    · iapply (Entails.of_eq (unscopedBufs_held d (W3 m d)).symm) $$ [Hh]
      iexact Hh
    isplitl [Hb] <;> iassumption
  isplitl [Hb]; · iexact Hb
  isplitl [Hf Hl Hc Hr Hp Ho Hs HO]
  · isplitr [HO]
    · rw [unscopedBufs_eq, VR_f, VR_l, VR_c, VR_r, VR_p, VR_o, VR_s]
      isplitl [Hf]; · iexact Hf
      isplitl [Hl]; · iexact Hl
      isplitl [Hc]; · iexact Hc
      isplitl [Hr]; · iexact Hr
      isplitl [Hp]; · iexact Hp
      isplitl [Ho]; · iexact Ho
      iexact Hs
    · iexact HO
  isplitl [Hlv]; · iexact Hlv
  isplitl [Hcg]; · iexact Hcg
  iexact Htk

/-! ## What the final memory holds -/

/-- An array held at `f` is at `f` in the memory. -/
theorem read_array (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr [HSI]
  · ipureintro; exact funext fun i => h i (Finset.mem_univ i)
  · iexact HSI

/-- The arguments at their launch contents and the result at the reshaped loss. -/
def fq (d : Dev nD) (s' : Phys nD τ sig (Elt F)) : Prop :=
  s'.mem.mem (fLoc d) = W3 m d (main_arg0 : Ref sig .tc) ∧ s'.mem.mem (lLoc d) = W3 m d (main_arg1 : Ref sig .tc)
    ∧ s'.mem.mem (cLoc d) = W3 m d (main_arg2 : Ref sig .tc) ∧ s'.mem.mem (rLoc d) = W3 m d (main_arg3 : Ref sig .tc)
    ∧ s'.mem.mem (sLoc d) = W3 m d (main_v2 : Ref sig .tc)

/-- Holding every array at its final contents, the memory has them. -/
theorem hfin (d : Dev nD) (s' : Phys nD τ sig (Elt F)) : iprop(FIN m d ∗ SI s') ⊢ (⌜fq m d s'⌝ : sProp 𝕄) := by
  unfold FIN
  rw [unscopedBufs_eq]
  iintro ⟨⟨Hf, Hl, Hc, Hr, -, -, Hs⟩, HSI⟩
  ihave H := (read_array (fLoc d) _ s') $$ [Hf HSI]
  · isplitl [Hf] <;> iassumption
  icases H with ⟨%h0, HSI⟩
  ihave H := (read_array (lLoc d) _ s') $$ [Hl HSI]
  · isplitl [Hl] <;> iassumption
  icases H with ⟨%h1, HSI⟩
  ihave H := (read_array (cLoc d) _ s') $$ [Hc HSI]
  · isplitl [Hc] <;> iassumption
  icases H with ⟨%h2, HSI⟩
  ihave H := (read_array (rLoc d) _ s') $$ [Hr HSI]
  · isplitl [Hr] <;> iassumption
  icases H with ⟨%h3, HSI⟩
  ihave H := (read_array (sLoc d) _ s') $$ [Hs HSI]
  · isplitl [Hs] <;> iassumption
  icases H with ⟨%h4, -⟩
  ipureintro; exact ⟨h0, h1, h2, h3, h4⟩

/-- The reshape writes only the result. -/
theorem W3_of_ne (d : Dev nD) (b : DevRef τ sig) (h0 : b ≠ pRef) (h1 : b ≠ oRef) (h2 : b ≠ sRef) : W3 m d b = m (d, b) := by
  rw [W3, (opRe (F := F)).result_of_not_mem (W2 m d) (show b ∉ ({sRef} : Finset (DevRef τ sig)) from fun h => h2 (Finset.mem_singleton.mp h)),
    W2, Function.update_of_ne h1, W1, Function.update_of_ne h0]
  rfl

/-- The result is the region's single entry. -/
theorem W3_result (d : Dev nD) : W3 m d sRef = fun _ => (finAt (VR m) d).1 (ix2 0 0) := by
  rw [W3, StableHlo.reshape_result', W2, Function.update_self]
  exact funext fun i => congrArg (finAt (VR m) d).1 (one_entry _ _)

/-- What a run leaves: the arguments as they were, the result at the loss the region computes from the partial sums, and
    every counter at zero. -/
def QC : PUnit × MemSt nD τ sig (Elt F) → Prop := fun r =>
  (∀ d : Dev nD, r.2.mem (fLoc d) = m (fLoc d) ∧ r.2.mem (lLoc d) = m (lLoc d) ∧ r.2.mem (cLoc d) = m (cLoc d) ∧ r.2.mem (rLoc d) = m (rLoc d)
    ∧ r.2.mem (sLoc d) = fun _ => (finAt (VR m) d).1 (ix2 0 0)) ∧ r.2.sem = fun _ => 0

/-- The kernel runs to the end, from any launch memory whose labels are classes. -/
theorem run_main [∀ e, Nonempty (Elt F e)] (hlab : LabOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hlab)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun _ h hz => ⟨fun d => by
      obtain ⟨h0, h1, h2, h3, h4⟩ := h d
      exact ⟨h0.trans (W3_of_ne m d _ (by decide) (by decide) (by decide)), h1.trans (W3_of_ne m d _ (by decide) (by decide) (by decide)),
        h2.trans (W3_of_ne m d _ (by decide) (by decide) (by decide)), h3.trans (W3_of_ne m d _ (by decide) (by decide) (by decide)),
        h4.trans (W3_result m d)⟩, hz⟩)

end Cert.Proof

end
-- ==== Proof.Loss.lean ====
/-
  The loss over the extended reals, in the two ways it is computed, and that they are equal. A class's center is divided
  by its length, which gives the class's unit. One way takes, per sample, one minus the product of the sample and its
  class's unit, and their mean. The other first adds up the samples of each class, and takes one minus the mean of the
  sums' products with the units. Both add half the same term for the rules: a mean over the classes of one minus the
  product of the unit and the average of the others' units, by the rule matrix's row without its diagonal entry.
-/
module

public import Idealize.ShloMosaic.PureOps.Ideal
public import Idealize.ShloMosaic.Lib.IdealHost

@[expose] public section

noncomputable section

namespace Cert.Proof.Loss

open Idealize.ShloMosaic

variable (C : Fin 26 → Fin 128 → EReal) (R : Fin 26 → Fin 26 → EReal)

/-! ## The terms -/

/-- The least length a center is divided by. -/
abbrev least : EReal := Ideal.ofBits .f32 0x2B8CBCCC#32
/-- What is added to a row's weights, against a row of zeros. -/
abbrev slack : EReal := Ideal.ofBits .f32 0x322BCC77#32
abbrev samples : EReal := Ideal.ofBits .f32 0x46800000#32
abbrev classes : EReal := Ideal.ofBits .f32 0x41D00000#32
abbrev half : EReal := Ideal.ofBits .f32 0x3F000000#32

/-- A class's center over its length. -/
def unit (c : Fin 26) (k : Fin 128) : EReal := Ideal.div (C c k) (max (Ideal.sqrt (∑ x, C c x * C c x)) least)

/-- The rules without their diagonal. -/
def off (c j : Fin 26) : EReal := if c = j then 0 else R c j

/-- What a row's rules are divided by. -/
def total (c : Fin 26) : EReal := ∑ j, off R c j + slack

def weight (c j : Fin 26) : EReal := Ideal.div (off R c j) (total R c)

/-- The average of the other classes' units. -/
def average (c : Fin 26) (k : Fin 128) : EReal := ∑ j, weight R c j * unit C j k

/-- The loss from the samples' sums by class. -/
def ofSums (P : Fin 26 → Fin 128 → EReal) : EReal :=
  1 - Ideal.div (∑ c, ∑ k, P c k * unit C c k) samples
    + half * (1 - Ideal.div (∑ c, ∑ k, unit C c k * average C R c k) classes)

/-- The loss from the samples and their classes. -/
def ofSamples (x : Fin 16384 → Fin 128 → EReal) (lab : Fin 16384 → Fin 26) : EReal :=
  Ideal.div (∑ n, (1 - ∑ k, x n k * unit C (lab n) k)) samples
    + half * Ideal.div (∑ c, (1 - ∑ k, unit C c k * average C R c k)) classes

/-! ## The constants -/

/-- It is a positive real. -/
theorem least_real : ∃ e : ℝ, 0 < e ∧ least = (e : EReal) := by
  refine ⟨_, ?_, by unfold least; simp [Ideal.ofBits, Ideal.ieee, -EReal.coe_mul]; rfl⟩
  positivity

/-- It is a real. -/
theorem slack_real : ∃ e : ℝ, slack = (e : EReal) :=
  ⟨_, by unfold slack; simp [Ideal.ofBits, Ideal.ieee, -EReal.coe_mul]; rfl⟩

/-- There are 16384 samples. -/
theorem samples_eq : samples = ((16384 : ℝ) : EReal) := by
  unfold samples; simp [Ideal.ofBits, Ideal.ieee, -EReal.coe_mul]; norm_num

/-- There are 26 classes. -/
theorem classes_eq : classes = ((26 : ℝ) : EReal) := by
  unfold classes; simp [Ideal.ofBits, Ideal.ieee, -EReal.coe_mul]; norm_num

/-- And a half is a half. -/
theorem half_eq : half = ((1 / 2 : ℝ) : EReal) := by
  unfold half; simp [Ideal.ofBits, Ideal.ieee, -EReal.coe_mul]; norm_num

/-! ## The diagonal, as the programs test for it -/

/-- Words of numbers below 26 are equal as words exactly if the numbers are. -/
theorem word_eq (a b : Fin 26) : (BitVec.ofNat 32 a.val = BitVec.ofNat 32 b.val) ↔ a = b := by
  rw [← BitVec.toNat_inj, BitVec.toNat_ofNat, BitVec.toNat_ofNat, Nat.mod_eq_of_lt (by omega), Nat.mod_eq_of_lt (by omega), Fin.val_inj]

/-- The choice by the diagonal. -/
theorem select_diag (a b : Fin 26) (x y : EReal) :
    Scalar.select (IntOp.cmpi .eq (BitVec.ofNat 32 a.val) (BitVec.ofNat 32 b.val)) x y = if a = b then x else y := by
  unfold Scalar.select IntOp.cmpi
  by_cases h : a = b
  · subst h; simp
  · have e : (BitVec.ofNat 32 a.val == BitVec.ofNat 32 b.val) = false := beq_eq_false_iff_ne.mpr fun e => h ((word_eq a b).mp e)
    simp [e, h]

/-- A rule times one minus the test for the diagonal. -/
theorem mul_diag (a b : Fin 26) (x : EReal) :
    x * (1 - FloatOps.uitofp (F := Ideal) .f32 (IntOp.cmpi .eq (IntOp.addi (BitVec.ofNat 32 a.val) 0#32) (BitVec.ofNat 32 b.val)))
      = if a = b then 0 else x := by
  rw [show IntOp.addi (BitVec.ofNat 32 a.val) 0#32 = BitVec.ofNat 32 a.val from BitVec.add_zero _]
  unfold IntOp.cmpi
  by_cases h : a = b
  · subst h
    simp [FloatOps.uitofp]
    exact .inr (EReal.sub_self (EReal.coe_ne_top 1) (EReal.coe_ne_bot 1))
  · have e : (BitVec.ofNat 32 a.val == BitVec.ofNat 32 b.val) = false := beq_eq_false_iff_ne.mpr fun e => h ((word_eq a b).mp e)
    simp [e, h, FloatOps.uitofp]

/-! ## What is finite -/

/-- A finite extended real is a real. -/
theorem real_of {ι κ : Type} (f : ι → κ → EReal) (h : ∀ i k, f i k ≠ ⊤ ∧ f i k ≠ ⊥) : ∃ g : ι → κ → ℝ, ∀ i k, f i k = (g i k : EReal) :=
  ⟨fun i k => (f i k).toReal, fun i k => (EReal.coe_toReal (h i k).1 (h i k).2).symm⟩

/-- A finite sum's terms are finite. -/
theorem terms_finite {n : ℕ} (f : Fin n → EReal) (ht : ∑ i, f i ≠ ⊤) (hb : ∑ i, f i ≠ ⊥) (i : Fin n) : f i ≠ ⊤ ∧ f i ≠ ⊥ := by
  rw [← Finset.add_sum_erase _ f (Finset.mem_univ i)] at ht hb
  have h2 : f i ≠ ⊥ := fun e => hb (by rw [e, EReal.bot_add])
  refine ⟨fun e => ?_, h2⟩
  rw [e] at ht hb
  by_cases hr : ∑ j ∈ Finset.univ.erase i, f j = ⊥
  · exact hb (by rw [hr, EReal.add_bot])
  · exact ht (EReal.top_add_of_ne_bot hr)

/-- A square is not negative, infinite or not. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A quotient by an infinite divisor is zero. -/
theorem div_top (x : EReal) : Ideal.div x ⊤ = 0 := by simp [Ideal.div]
/-- The same at the other infinity. -/
theorem div_bot (x : EReal) : Ideal.div x ⊥ = 0 := by simp [Ideal.div]

/-- A quotient of reals by a divisor that is not zero. -/
theorem div_coe (x y : ℝ) (h : y ≠ 0) : Ideal.div (x : EReal) y = ((x / y : ℝ) : EReal) := by
  rw [Ideal.div_coe h, ← EReal.coe_mul, mul_one_div]

/-- A unit's entries are finite, whatever the centers: an infinite length leaves zeros. -/
theorem unit_finite (c : Fin 26) (k : Fin 128) : unit C c k ≠ ⊤ ∧ unit C c k ≠ ⊥ := by
  obtain ⟨e, he, hl⟩ := least_real
  have hpos : (0 : EReal) < max (Ideal.sqrt (∑ x, C c x * C c x)) least :=
    lt_of_lt_of_le (by rw [hl]; exact EReal.coe_pos.mpr he) (le_max_right _ _)
  unfold unit
  generalize hy : max (Ideal.sqrt (∑ x, C c x * C c x)) least = y at hpos
  induction y with
  | bot => exact absurd hpos (by simp)
  | top => rw [div_top]; exact ⟨EReal.zero_ne_top, EReal.zero_ne_bot⟩
  | coe y =>
    have hS : ∑ x, C c x * C c x ≠ ⊤ := fun h => by
      rw [h] at hy
      have : max (⊤ : EReal) least = y := hy
      rw [max_eq_left le_top] at this
      exact EReal.coe_ne_top y this.symm
    have hS' : ∑ x, C c x * C c x ≠ ⊥ := fun h => by
      have := Finset.sum_nonneg (s := Finset.univ) fun x _ => sq_nonneg (C c x)
      rw [h] at this
      exact absurd this (by simp)
    have hk := (terms_finite _ hS hS' k).1
    generalize C c k = a at hk
    induction a with
    | bot => simp at hk
    | top => simp at hk
    | coe a =>
      rw [div_coe _ _ (EReal.coe_pos.mp hpos).ne']
      exact ⟨EReal.coe_ne_top _, EReal.coe_ne_bot _⟩

/-- A weight is finite where its row's divisor is not zero: an infinite divisor leaves zeros. -/
theorem weight_finite (c j : Fin 26) (h : total R c ≠ 0) : weight R c j ≠ ⊤ ∧ weight R c j ≠ ⊥ := by
  obtain ⟨e, he⟩ := slack_real
  unfold weight
  generalize hy : total R c = y at h
  induction y with
  | bot => rw [div_bot]; exact ⟨EReal.zero_ne_top, EReal.zero_ne_bot⟩
  | top => rw [div_top]; exact ⟨EReal.zero_ne_top, EReal.zero_ne_bot⟩
  | coe y =>
    unfold total at hy
    rw [he] at hy
    have ht : ∑ j, off R c j ≠ ⊤ := fun e' => by rw [e', EReal.top_add_coe] at hy; exact EReal.coe_ne_top y hy.symm
    have hb : ∑ j, off R c j ≠ ⊥ := fun e' => by rw [e', EReal.bot_add] at hy; exact EReal.coe_ne_bot y hy.symm
    obtain ⟨h1, h2⟩ := terms_finite _ ht hb j
    generalize off R c j = a at h1 h2
    induction a with
    | bot => exact absurd rfl h2
    | top => exact absurd rfl h1
    | coe a =>
      rw [div_coe _ _ (by exact_mod_cast h)]
      exact ⟨EReal.coe_ne_top _, EReal.coe_ne_bot _⟩

/-! ## The two are equal -/

/-- A sum of reals taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- One, as a real. -/
theorem one_coe : (1 : EReal) = ((1 : ℝ) : EReal) := by norm_cast

/-- The samples' products with their classes' units, added up by class and by sample. -/
theorem regroup (x : Fin 16384 → Fin 128 → ℝ) (lab : Fin 16384 → Fin 26) (u : Fin 26 → Fin 128 → ℝ) :
    ∑ c, ∑ k, (∑ n, if lab n = c then x n k else 0) * u c k = ∑ n, ∑ k, x n k * u (lab n) k := by
  simp only [Finset.sum_mul, ite_mul, zero_mul]
  rw [Finset.sum_comm]
  simp only [fun k : Fin 128 => Finset.sum_comm (s := (Finset.univ : Finset (Fin 26))) (t := (Finset.univ : Finset (Fin 16384)))
    (f := fun c n => if lab n = c then x n k * u c k else 0), Finset.sum_ite_eq, Finset.mem_univ, if_true]
  exact Finset.sum_comm

/-- The loss from the sums is the loss from the samples, where the samples are finite and no row's divisor is zero. -/
theorem ofSums_eq (P : Fin 26 → Fin 128 → EReal) (x : Fin 16384 → Fin 128 → EReal) (lab : Fin 16384 → Fin 26) (xr : Fin 16384 → Fin 128 → ℝ)
    (hx : ∀ n k, x n k = (xr n k : EReal)) (hR : ∀ c, total R c ≠ 0)
    (hP : ∀ c k, P c k = ((∑ n, if lab n = c then xr n k else 0 : ℝ) : EReal)) : ofSums C R P = ofSamples C R x lab := by
  obtain ⟨u, hu⟩ := real_of (unit C) (unit_finite C)
  obtain ⟨w, hw⟩ := real_of (weight R) fun c j => weight_finite R c j (hR c)
  have ha (c : Fin 26) (k : Fin 128) : average C R c k = ((∑ j, w c j * u j k : ℝ) : EReal) := by
    unfold average; simp only [hw, hu, ← EReal.coe_mul, sum_coe]
  unfold ofSums ofSamples
  simp only [hP, hx, hu, ha, samples_eq, classes_eq, half_eq, one_coe, ← EReal.coe_mul, sum_coe, ← EReal.coe_sub]
  rw [regroup]
  simp only [div_coe _ _ (by norm_num : (16384 : ℝ) ≠ 0), div_coe _ _ (by norm_num : (26 : ℝ) ≠ 0), ← EReal.coe_mul, ← EReal.coe_sub, ← EReal.coe_add]
  congr 1
  rw [Finset.sum_sub_distrib, Finset.sum_sub_distrib]
  simp only [Finset.sum_const, Finset.card_univ, Fintype.card_fin, nsmul_eq_mul]
  push_cast
  ring

end Cert.Proof.Loss

end
-- ==== Proof.Pre.lean ====
/-
  What the two preconditions say: every label is a class; and, of the value claim's, every feature finite and no rule
  row's weight sum zero.
-/
module

public import proofs.«01_k».proof.Defs
public import proofs.«01_k».proof.Proof.Gen.Pre_pre
public import proofs.«01_k».proof.Proof.Gen.Pre_pre_value
public import Idealize.ShloMosaic.Lib.ReduceAll
public import Idealize.ShloMosaic.Lib.Pointwise
public import proofs.«01_k».proof.Proof.Loss

@[expose] public section

noncomputable section

namespace Cert.Proof.Pre

open Idealize.ShloMosaic

attribute [local instance] Cert.Pre_pre.Gen.facts Cert.Pre_pre_value.Gen.facts

variable {F : FTy → Type} [FloatOps F]

/-- Both of two bits are set where their conjunction is. -/
theorem andi_one {p q : BitVec 1} (h : IntOp.andi p q = 1#1) : p = 1#1 ∧ q = 1#1 := by
  revert p q; decide

instance : Subsingleton (Shape.Idx ⟨0, ![]⟩) := ⟨fun _ _ => funext fun a => a.elim0⟩

/-- A word that is at least 0 and below 26 as a signed word is its own value, below 26. -/
theorem in_range (v : BitVec 32) (e : IntOp.andi (IntOp.cmpi .sge v 0#32) (IntOp.cmpi .slt v 26#32) = 1#1) : v.toNat < 26 := by
  have of_one (p : Bool) : (BitVec.ofBool p = 1#1) ↔ p = true := by cases p <;> decide
  obtain ⟨e1, e2⟩ := andi_one e
  simp only [IntOp.cmpi, of_one, BitVec.sle_eq_decide, BitVec.slt_eq_decide, decide_eq_true_eq, BitVec.toInt_eq_toNat_cond,
    BitVec.toNat_ofNat, Nat.reducePow, Nat.reduceMod] at e1 e2
  omega

/-- The first precondition: every label is a class. -/
theorem labels (x : FVec F Cert.Pre_pre.S16384x128 .f32) (l : IVec Cert.Pre_pre.S16384 32) (p : FVec F Cert.Pre_pre.S26x128 .f32)
    (r : FVec F Cert.Pre_pre.S26x26 .f32) (h : Cert.Pre_pre.fn x l p r = fun _ => 1#1) (j : Cert.Pre_pre.S16384.Idx) : (l j).toNat < 26 := by
  have h0 := congrFun h (fun a => a.elim0)
  unfold Cert.Pre_pre.fn at h0
  exact in_range _ (Host.reduce_andi_all _ _ _ _ _ h0 j)

/-- A truth value's bit is set exactly if it is true. -/
theorem one_of_bool (p : Bool) : (BitVec.ofBool p = 1#1) = (p = true) := by cases p <;> decide

/-- An extended real whose magnitude is below infinity is a real. -/
theorem finite_of_abs (x : EReal) (h : FloatOps.absf (F := Ideal) (φ := .f32) x < Ideal.ofBits .f32 0x7F800000#32) : ∃ v : ℝ, x = (v : EReal) := by
  have ht : Ideal.ofBits .f32 0x7F800000#32 = ⊤ := by simp [Ideal.ofBits, Ideal.ieee]
  have h' : max x (-x) < ⊤ := ht ▸ h
  induction x with
  | bot => simp at h'
  | top => simp at h'
  | coe v => exact ⟨v, rfl⟩

/-- The value claim's precondition: every label is a class, every feature finite, and no rule row's weight sum zero. -/
theorem value (x : FVec Ideal Cert.Pre_pre_value.S16384x128 .f32) (l : IVec Cert.Pre_pre_value.S16384 32) (p : FVec Ideal Cert.Pre_pre_value.S26x128 .f32)
    (r : FVec Ideal Cert.Pre_pre_value.S26x26 .f32) (h : Cert.Pre_pre_value.fn x l p r = fun _ => 1#1) :
    (∀ j, (l j).toNat < 26) ∧ (∀ a b, ∃ v : ℝ, x (ix2 a b) = (v : EReal)) ∧ ∀ c, Loss.total (fun a b => r (ix2 a b)) c ≠ 0 := by
  have h0 := congrFun h (fun a => a.elim0)
  unfold Cert.Pre_pre_value.fn Cert.Pre_pre_value.fn_part1 at h0
  obtain ⟨e, e3⟩ := andi_one h0
  obtain ⟨e1, e2⟩ := andi_one e
  refine ⟨fun j => in_range _ (Host.reduce_andi_all _ _ _ _ _ e1 j), fun a b => ?_, fun c => ?_⟩
  · have h2 := Host.reduce_andi_all _ _ _ _ _ e2 (ix2 a b)
    pointwise at h2
    rw [one_of_bool, decide_eq_true_eq] at h2
    exact finite_of_abs _ h2
  · have h3 := Host.reduce_andi_all _ _ _ _ _ e3 (ix2 c 0)
    pointwise at h3
    rw [one_of_bool, decide_eq_true_eq] at h3
    simp only [Loss.mul_diag] at h3
    exact h3

end Cert.Proof.Pre

end
-- ==== Proof.Frames.lean ====
/-
  The frames: the kernel's, at words and at extended reals, and the reference's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main
public import proofs.«01_k».proof.Proof.Pre

@[expose] public section

noncomputable section

namespace Cert.Proof

open Idealize.ShloMosaic Idealize.SL.Sem

attribute [local instance] Cert.Kernel.Gen.facts Cert.KernelIdeal.Gen.facts Cert.ReferenceIdeal.Gen.facts Cert.Pre_pre.Gen.facts Cert.Pre_pre_value.Gen.facts

/-- The kernel's printed bodies and its idealized ones are the same table. -/
theorem defs₀_eq : Cert.Kernel.defs₀ (F := Bits) = Cert.KernelIdeal.defs₀ (F := Bits) := by
  funext p ℓ a
  match p, ℓ, a with
  | .scVector c s, ⟨0, _⟩, _ => rfl
  | .scVector c s, ⟨1, _⟩, _ => rfl
  | .scScalar c, ⟨0, _⟩, _ => rfl
  | .scScalar c, ⟨1, _⟩, _ => rfl
  | .tc, ⟨0, _⟩, a => rfl
  | .tc, ⟨1, _⟩, (t, s) => rfl

/-- The kernel's tables, idealized and not, are the same at words. -/
theorem defs_eq : Cert.Kernel.defs (F := Bits) = Cert.KernelIdeal.defs (F := Bits) := by
  unfold Cert.Kernel.defs
  rw [defs₀_eq]
  rfl

/-- The kernel at words: it ends, its arguments unchanged and every counter at zero. -/
theorem frame_kernel : Cert.quiescent_Kernel := fun m ρ h => by
  rw [defs_eq]
  exact (θ_run Cert.KernelIdeal.defs _ _).mono (fun _ h => ⟨fun d => ⟨(h.1 d).1, (h.1 d).2.1, (h.1 d).2.2.1, (h.1 d).2.2.2.1⟩, h.2⟩)
    (run_main (F := Bits) m ρ fun d => Pre.labels _ _ _ _ (h d))

/-- The same at extended reals. -/
theorem frame_kernelIdeal : Cert.quiescent_KernelIdeal := fun m ρ h =>
  (θ_run Cert.KernelIdeal.defs _ _).mono (fun _ h => ⟨fun d => ⟨(h.1 d).1, (h.1 d).2.1, (h.1 d).2.2.1, (h.1 d).2.2.2.1⟩, h.2⟩)
    (run_main (F := Ideal) m ρ fun d => Pre.labels _ _ _ _ (h d))

/-- The same under the value claim's precondition. -/
theorem frame_kernelIdeal_value : Cert.quiescent_KernelIdeal_pre_pre_value := fun m ρ h =>
  (θ_run Cert.KernelIdeal.defs _ _).mono (fun _ h => ⟨fun d => ⟨(h.1 d).1, (h.1 d).2.1, (h.1 d).2.2.1, (h.1 d).2.2.2.1⟩, h.2⟩)
    (run_main (F := Ideal) m ρ fun d => (Pre.value _ _ _ _ (h d)).1)

/-- The reference: it has no counter, and leaves its arguments. -/
theorem frame_reference : Cert.quiescent_ReferenceIdeal := fun m ρ _ =>
  (θ_run Cert.ReferenceIdeal.defs _ _).mono
    (fun r h => ⟨fun d => (h d).2, sem_eq_zero_of_no_sems (by decide) r.2⟩) (Cert.ReferenceIdeal.Value.run (F := Ideal) m ρ)

/-- The same under the value claim's precondition. -/
theorem frame_reference_value : Cert.quiescent_ReferenceIdeal_pre_pre_value := fun m ρ _ => frame_reference m ρ trivial

end Cert.Proof

end
-- ==== Proof.Value.lean ====
/-
  The kernel's result as the loss: the last kernel's payloads read entry by entry, the partial sums as the samples' sums
  by class, and so the loss from the samples and their classes.
-/
module
public import proofs.«01_k».proof.Proof.Main
public import proofs.«01_k».proof.Proof.Loss
public import Idealize.ShloMosaic.Lib.Pointwise
public import Idealize.ShloMosaic.Lib.Pipeline.ValueKit
@[expose] public section
noncomputable section
namespace Cert.Proof
open Cert.KernelIdeal Cert.KernelIdeal.Gen Cert.Proof.Accum
open Idealize.ShloMosaic Idealize.ShloMosaic.TcCoe

/-! ## The last kernel's payloads -/

/-- The centers over their lengths. -/
theorem pay4_apply (C : Vec Ideal S26x128 .f32) (a : Fin 26) (b : Fin 128) : k1_pay4 C (ix2 a b) = Loss.unit (fun c k => C (ix2 c k)) a b := by
  pointwise [k1_pay4]
  rfl

/-- The loss, from the sum of the products with the units. -/
theorem pay1_apply (C : Vec Ideal S26x128 .f32) (s : Ideal .f32) (R : Vec Ideal S26x26 .f32) (a b : Fin 1) :
    k1_pay1 (k1_pay4 C) s (iota .tc S26x26 32 [0] iota_S26x26_d0_w32) R (ix2 a b)
      = (1 - Ideal.div s Loss.samples + Loss.half * (1 - Ideal.div (∑ c, ∑ k, Loss.unit (fun c k => C (ix2 c k)) c k
          * Loss.average (fun c k => C (ix2 c k)) (fun c j => R (ix2 c j)) c k) Loss.classes) : EReal) := by
  pointwise [k1_pay1]
  simp only [pay4_apply, Loss.select_diag]
  rfl

/-- The sum of the products with the units: the 32 shards added up, entry by entry. -/
theorem pay5_apply (f : Fin 32 → Vec Ideal S32x128 .f32) (C : Vec Ideal S26x128 .f32) :
    k1_pay5 (k1_pay3 (k1_pay2 (f 0) (f 1) (f 2) (f 3) (f 4) (f 5) (f 6) (f 7) (f 8) (f 9) (f 10) (f 11))
      (f 12) (f 13) (f 14) (f 15) (f 16) (f 17) (f 18) (f 19) (f 20) (f 21) (f 22) (f 23))
      (f 24) (f 25) (f 26) (f 27) (f 28) (f 29) (f 30) (f 31) C
    = (∑ c : Fin 26, ∑ k : Fin 128, (∑ w, f w (ix2 ⟨c.val, by omega⟩ k)) * Loss.unit (fun c k => C (ix2 c k)) c k : EReal) := by
  pointwise [k1_pay5, k1_pay3, k1_pay2]
  refine Finset.sum_congr rfl fun c _ => Finset.sum_congr rfl fun k _ => ?_
  rw [pay4_apply]
  refine congrArg (· * _) ?_
  simp only [Fin.sum_univ_castSucc, Fin.sum_univ_zero, zero_add]
  rfl

/-- What the last kernel leaves: the loss from its three arrays, the partial sums added up over the shards. -/
theorem finRun_eq (c : Dev nD) (f0 : Bf (F := Ideal) c (stage1_0 0)) (f1 : Bf (F := Ideal) c (stage1_1 0)) (f2 : Bf (F := Ideal) c (stage1_2 0)) :
    (finRun (F := Ideal) c f0 f1 f2).1 (ix2 0 0)
      = Loss.ofSums (fun c k => (stage1_1 0).view.read (Elt Ideal) f1 (ix2 c k)) (fun c j => (stage1_2 0).view.read (Elt Ideal) f2 (ix2 c j))
          (fun c k => ∑ w : Fin 32, (stage1_0 0).view.read (Elt Ideal) f0 (ix2 ⟨32 * w.val + c.val, by omega⟩ k)) := by
  let X : Fin 32 → Vec Ideal S32x128 .f32 := fun w => View.ld ((stage1_0 0).view.read (Elt Ideal) f0)
    (Rect.unit (s := S1024x128) ![32 * w.val, 0] ![32, 128] (fun a => by
      have := w.isLt
      match a with
      | 0 => show 32 * w.val + 32 ≤ 1024; omega
      | 1 => show 0 + 128 ≤ 128; omega))
  show (stage1_3 0).view.read (Elt Ideal) (finRun (F := Ideal) c f0 f1 f2).1 (ix2 0 0) = _
  unfold finRun
  frame_out
  refine (pay1_apply _ _ _ 0 0).trans ?_
  have hX (w : Fin 32) (a : Fin 26) (b : Fin 128) : X w (ix2 ⟨a.val, by omega⟩ b)
      = (stage1_0 0).view.read (Elt Ideal) f0 (ix2 ⟨32 * w.val + a.val, by omega⟩ b) := by
    refine congrArg ((stage1_0 0).view.read (Elt Ideal) f0) (funext fun i => Fin.ext ?_)
    match i with
    | 0 => show 32 * w.val + 1 * a.val = 32 * w.val + a.val; omega
    | 1 => show 0 + 1 * b.val = b.val; omega
  unfold Loss.ofSums
  refine congrArg₂ (· + ·) (congrArg (fun s : EReal => 1 - Ideal.div s Loss.samples) ?_) rfl
  refine (pay5_apply X ((stage1_1 0).view.read (Elt Ideal) f1)).trans ?_
  simp only [hX]

/-! ## The partial sums -/

/-- A sum over `a` runs of `b` numbers each is the sum over all of them. -/
theorem sum_runs (f : ℕ → ℝ) (a b : ℕ) : ∑ w ∈ Finset.range a, ∑ r ∈ Finset.range b, f (b * w + r) = ∑ n ∈ Finset.range (b * a), f n := by
  induction a with
  | zero => simp
  | succ a ih => rw [Finset.sum_range_succ, ih, Nat.mul_succ, Finset.sum_range_add]

/-- Rows added to an accumulator of zeros: entry by entry, the sum of the rows that name its row. -/
theorem rowsAdd_real (lab : ℕ → ℕ) (x : ℕ → Fin 128 → Ideal .f32) (xr : ℕ → Fin 128 → ℝ) (hx : ∀ r k, x r k = (xr r k : EReal)) (n : ℕ) (j : S32x128.Idx) :
    rowsAdd lab x (fun _ => zf (F := Ideal)) n j = ((∑ r ∈ Finset.range n, if lab r = (j 0).val then xr r (j 1) else 0 : ℝ) : EReal) := by
  induction n with
  | zero => exact Ideal.ofBits_zero_f32
  | succ n ih =>
    rw [Finset.sum_range_succ, EReal.coe_add, ← ih]
    show (if (j 0).val = lab n then (rowsAdd lab x (fun _ => zf (F := Ideal)) n j + x n (j 1) : EReal) else rowsAdd lab x (fun _ => zf (F := Ideal)) n j) = _
    by_cases h : lab n = (j 0).val
    · rw [if_pos h.symm, if_pos h]; exact congrArg _ (hx n (j 1))
    · rw [if_neg (fun e => h e.symm), if_neg h]; exact (add_zero (_ : EReal)).symm

variable (m : (ℓ : Loc nD τ sig) → Buf (Elt Ideal) ℓ) (d : Dev nD)

/-- Row `32 w + c` of the partial sums is of the class `c` and of the rows from `512 w` on. -/
theorem base_tileOf (w : Fin 32) (c : Fin 26) : base (tileOf ⟨32 * w.val + c.val, by omega⟩) = 512 * w.val := by
  show 1024 * ((32 * w.val + c.val) / 64) + 512 * ((32 * w.val + c.val) / 32 % 2) = 512 * w.val
  omega

/-- Entry `(c, k)` of shard `w`. -/
def shard (w : Fin 32) (c : Fin 26) (k : Fin 128) : EReal := partV m d (ix2 ⟨32 * w.val + c.val, by omega⟩ k)

/-- It is the sum of the shard's samples of the class. -/
theorem shard_eq (xr : Fin 16384 → Fin 128 → ℝ) (hx : ∀ n k, m (fLoc d) (ix2 n k) = (xr n k : EReal)) (w : Fin 32) (c : Fin 26) (k : Fin 128) :
    shard m d w c k
      = ((∑ r ∈ Finset.range 512, if rowLab m d (512 * w.val + r) = c.val then xr (Fin.ofNat 16384 (512 * w.val + r)) k else 0 : ℝ) : EReal) := by
  have hc : (32 * w.val + c.val) % 32 = c.val := by omega
  show rowsAdd (fun r => rowLab m d (base (tileOf ⟨32 * w.val + c.val, _⟩) + r)) (fun r => rowFeat m d (base (tileOf ⟨32 * w.val + c.val, _⟩) + r))
    (fun _ => zf (F := Ideal)) 512 (ix2 ⟨(32 * w.val + c.val) % 32, Nat.mod_lt _ (by decide)⟩ k) = _
  rw [base_tileOf]
  refine (rowsAdd_real _ _ (fun r k => xr (Fin.ofNat 16384 (512 * w.val + r)) k) (fun r k => hx _ k) 512 _).trans ?_
  simp only [ix2_0, ix2_1, hc]

/-- The shards' sums, added up: the samples' sums by class. -/
theorem shards (lab : Fin 16384 → Fin 26) (hlab : ∀ n, rowLab m d n.val = (lab n).val) (xr : Fin 16384 → Fin 128 → ℝ)
    (hx : ∀ n k, m (fLoc d) (ix2 n k) = (xr n k : EReal)) (c : Fin 26) (k : Fin 128) :
    ∑ w, shard m d w c k = ((∑ n, if lab n = c then xr n k else 0 : ℝ) : EReal) := by
  simp only [shard_eq m d xr hx]
  rw [Loss.sum_coe, ← Finset.sum_range fun w => ∑ r ∈ Finset.range 512,
    if rowLab m d (512 * w + r) = c.val then xr (Fin.ofNat 16384 (512 * w + r)) k else 0,
    sum_runs (fun n => if rowLab m d n = c.val then xr (Fin.ofNat 16384 n) k else 0), Finset.sum_range]
  refine congrArg _ (Finset.sum_congr rfl fun n _ => ?_)
  rw [hlab n, Fin.ofNat_val_eq_self]
  simp only [Fin.val_inj]

/-- The kernel's result, for finite features and rows of rules whose divisor is not zero: the loss from the samples. -/
theorem finAt_eq (lab : Fin 16384 → Fin 26) (hlab : ∀ n, rowLab m d n.val = (lab n).val)
    (xr : Fin 16384 → Fin 128 → ℝ) (hx : ∀ n k, m (fLoc d) (ix2 n k) = (xr n k : EReal))
    (hR : ∀ c, Loss.total (fun c j => m (rLoc d) (ix2 c j)) c ≠ 0) :
    (finAt (VR m) d).1 (ix2 0 0) = Loss.ofSamples (fun c k => m (cLoc d) (ix2 c k)) (fun c j => m (rLoc d) (ix2 c j))
      (fun n k => m (fLoc d) (ix2 n k)) lab := by
  rw [← Loss.ofSums_eq _ _ _ _ _ xr hx hR fun c k => shards m d lab hlab xr hx c k]
  refine (finRun_eq d _ _ _).trans ?_
  have e0 : (stage1_0 0).view.read (Elt Ideal) (stg0 (VR m) d) = partV m d := by
    refine Eq.trans (funext fun x => congrArg (VR m d main_v0) (funext fun a => Fin.ext ?_)) (VR_p m d)
    match a with
    | 0 => show 0 * 1024 + 1 * (x 0).val = (x 0).val; omega
    | 1 => show 0 * 128 + 1 * (x 1).val = (x 1).val; omega
  have e1 : (stage1_1 0).view.read (Elt Ideal) (stg1 (VR m) d) = m (cLoc d) := by
    refine Eq.trans (funext fun x => congrArg (VR m d main_arg2) (funext fun a => Fin.ext ?_)) (VR_c m d)
    match a with
    | 0 => show 0 * 26 + 1 * (x 0).val = (x 0).val; omega
    | 1 => show 0 * 128 + 1 * (x 1).val = (x 1).val; omega
  have e2 : (stage1_2 0).view.read (Elt Ideal) (stg2 (VR m) d) = m (rLoc d) := by
    refine Eq.trans (funext fun x => congrArg (VR m d main_arg3) (funext fun a => Fin.ext ?_)) (VR_r m d)
    match a with
    | 0 => show 0 * 26 + 1 * (x 0).val = (x 0).val; omega
    | 1 => show 0 * 26 + 1 * (x 1).val = (x 1).val; omega
  rw [e0, e1, e2]
  rfl

end Cert.Proof
end
-- ==== Proof.Reference.lean ====
/-
  The reference's result as the loss: its one term read entry by entry. A label that is a class is in range, so the row
  the reference takes is the class's unit and no entry is replaced.
-/
module

public import proofs.«01_k».proof.Proof.Gen.ReferenceIdeal.Run
public import proofs.«01_k».proof.Proof.Loss
public import Idealize.ShloMosaic.Lib.Pointwise
public import Idealize.ShloMosaic.Lib.Routing.Ops

@[expose] public section

noncomputable section

namespace Cert.Proof.Reference

open Cert.ReferenceIdeal Cert.ReferenceIdeal.Gen Idealize.ShloMosaic Idealize.ShloMosaic.TcCoe

/-- A class's word as the reference makes it an index: unchanged. -/
theorem index_eq (v : BitVec 32) (h : v.toNat < 26) :
    Scalar.select (IntOp.cmpi .slt v 0#32) (IntOp.addi v 26#32) v = v := by
  have e : IntOp.cmpi .slt v 0#32 = 0#1 := by
    unfold IntOp.cmpi
    rw [show v.slt 0#32 = false by rw [BitVec.slt_eq_decide, decide_eq_false_iff_not, BitVec.toInt_eq_toNat_cond, BitVec.toInt_eq_toNat_cond]; simp; omega]
    rfl
  rw [e]; rfl

/-- A class is in the range the reference tests for. -/
theorem range_eq (v : BitVec 32) (h : v.toNat < 26) : IntOp.andi (IntOp.cmpi .sge v 0#32) (IntOp.cmpi .sle v 25#32) = 1#1 := by
  have e1 : IntOp.cmpi .sge v 0#32 = 1#1 := by
    unfold IntOp.cmpi
    rw [show (0#32).sle v = true by rw [BitVec.sle_eq_decide, decide_eq_true_eq, BitVec.toInt_eq_toNat_cond, BitVec.toInt_eq_toNat_cond]; simp; omega]
    rfl
  have e2 : IntOp.cmpi .sle v 25#32 = 1#1 := by
    unfold IntOp.cmpi
    rw [show v.sle 25#32 = true by rw [BitVec.sle_eq_decide, decide_eq_true_eq, BitVec.toInt_eq_toNat_cond, BitVec.toInt_eq_toNat_cond]; simp; omega]
    rfl
  rw [e1, e2]; rfl

variable (m : (ℓ : Loc nD τ sig) → Buf (Elt Ideal) ℓ) (c : Dev nD)

/-- The reference's result, for labels that are classes: the loss from the samples. -/
theorem result_eq (lab : Fin 16384 → Fin 26) (hlab : ∀ n, m ((c.tc : Thread nD τ).loc main_arg1) (ix1 n) = BitVec.ofNat 32 (lab n).val) (j : S_.Idx) :
    Value.res_out0 m c j = Loss.ofSamples (fun a k => m ((c.tc : Thread nD τ).loc main_arg2) (ix2 a k))
      (fun a b => m ((c.tc : Thread nD τ).loc main_arg3) (ix2 a b)) (fun n k => m ((c.tc : Thread nD τ).loc main_arg0) (ix2 n k)) lab := by
  have hlt (n : Fin 16384) : (BitVec.ofNat 32 (lab n).val).toNat < 26 := by
    rw [BitVec.toNat_ofNat, Nat.mod_eq_of_lt (by omega)]; exact (lab n).isLt
  have hrow (U : FVec Ideal S26x128 .f32) (idx : IVec S16384x1 32) (n : Fin 16384) (k : Fin 128) (h : idx (ix2 n 0) = BitVec.ofNat 32 (lab n).val) :
      Host.gather gather_S26x128_S16384x1_S16384x128_1_0_n_n_0_1_1128 U idx (ix2 n k) = U (ix2 (lab n) k) :=
    (Routing.gather_row _ rfl rfl rfl rfl rfl U idx n k (lab n) h (by decide))
  pointwise [Value.res_main_v35]
  simp only [hlab, index_eq _ (hlt _), range_eq _ (hlt _), Loss.mul_diag]
  refine congrArg₂ (· + ·) (congrArg (Ideal.div · Loss.samples) (Finset.sum_congr rfl fun n _ =>
    congrArg (1 - ·) (Finset.sum_congr rfl fun k _ => congrArg (HMul.hMul (α := EReal) _) ?_))) rfl
  rw [show Finset.fold IntOp.andi (1#1) (fun _ => 1#1) (Finset.univ : Finset (Fin 1)) = 1#1 from rfl, hrow]
  · pointwise
    rfl
  · pointwise
    rw [hlab, index_eq _ (hlt n)]

end Cert.Proof.Reference

end
-- ==== Proof.Algebraic.lean ====
/-
  The value claim: from memories that agree on the arguments, the kernel and the reference end with the same loss. Both
  are the loss from the samples (Value.lean, Reference.lean) under the precondition (Pre.lean).
-/
module

public import proofs.«01_k».proof.Proof.Frames
public import proofs.«01_k».proof.Proof.Value
public import proofs.«01_k».proof.Proof.Reference

@[expose] public section

noncomputable section

namespace Cert.Proof

open Idealize.ShloMosaic Idealize.SL.Sem

attribute [local instance] Cert.KernelIdeal.Gen.facts Cert.ReferenceIdeal.Gen.facts Cert.Pre_pre_value.Gen.facts

/-- The kernel's result equals the reference's at the extended reals, and both leave their arguments. -/
theorem algebraic : Cert.algebraic_KernelIdeal_ReferenceIdeal_pre_pre_value := by
  intro m ρ m' ρ' hpre hagree
  have hv (d : Dev Cert.KernelIdeal.nD) := Pre.value _ _ _ _ (hpre d)
  refine ⟨fun d _ => (finAt (VR m) d).1 (ix2 0 0),
    (θ_run Cert.KernelIdeal.defs _ _).mono (fun _ h d => ⟨(h.1 d).2.2.2.2, (h.1 d).1, (h.1 d).2.1, (h.1 d).2.2.1, (h.1 d).2.2.2.1⟩)
      (run_main (F := Ideal) m ρ fun d => (hv d).1),
    (θ_run Cert.ReferenceIdeal.defs _ _).mono (fun _ h d => ⟨(h d).1.trans (funext fun j => ?_), (h d).2⟩)
      (Cert.ReferenceIdeal.Value.run (F := Ideal) m' ρ')⟩
  obtain ⟨hl, hx, hR⟩ := hv d
  obtain ⟨a0, a1, a2, a3⟩ := hagree d
  let lab : Fin 16384 → Fin 26 := fun n => ⟨(m (lLoc d) (ix1 n) : BitVec 32).toNat, hl (ix1 n)⟩
  have hlab (n : Fin 16384) : rowLab m d n.val = (lab n).val := by
    unfold rowLab
    rw [Fin.ofNat_val_eq_self]
    rfl
  choose xr hxr using hx
  refine (Reference.result_eq m' d lab (fun n => ?_) j).trans ?_
  · rw [a1]
    exact BitVec.eq_of_toNat_eq (by rw [BitVec.toNat_ofNat, Nat.mod_eq_of_lt (by have := (lab n).isLt; omega)])
  · rw [a0, a2, a3]
    exact (finAt_eq m d lab hlab xr hxr hR).symm

end Cert.Proof

end
-- ==== Proof.lean ====
/-
  The certificate's claims: the frames (Proof/Frames.lean), nothing rewritten between the kernel and its idealization, and
  the kernel's result equal to the reference's at the extended reals.
-/
module

public import proofs.«01_k».proof.Defs
public import proofs.«01_k».proof.Proof.Frames
public import proofs.«01_k».proof.Proof.Algebraic

@[expose] public section

noncomputable section

namespace Cert.Proof

/-- Every claim of this certificate. -/
theorem claim : Cert.Claim := ⟨Cert.Kernel.Gen.facts, Cert.KernelIdeal.Gen.facts, Cert.ReferenceIdeal.Gen.facts, Cert.Pre_pre.Gen.facts,
  Cert.Pre_pre_value.Gen.facts, frame_kernel, frame_kernelIdeal, frame_kernelIdeal_value, frame_reference, frame_reference_value, trivial, algebraic⟩

end Cert.Proof

end
